-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S64x128x768 : Shape := ⟨3, ![64, 128, 768]⟩
abbrev S64x128 : Shape := ⟨2, ![64, 128]⟩
abbrev S64 : Shape := ⟨1, ![64]⟩
abbrev S3x1024x64 : Shape := ⟨3, ![3, 1024, 64]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S8192x768 : Shape := ⟨2, ![8192, 768]⟩
abbrev S8192x512 : Shape := ⟨2, ![8192, 512]⟩
abbrev S1x512 : Shape := ⟨2, ![1, 512]⟩
abbrev S_ : Shape := ⟨0, ![]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S1x1024x64 : Shape := ⟨3, ![1, 1024, 64]⟩
abbrev S1024x64 : Shape := ⟨2, ![1024, 64]⟩
abbrev S8192 : Shape := ⟨1, ![8192]⟩
abbrev S8192x1 : Shape := ⟨2, ![8192, 1]⟩
abbrev S64x1024 : Shape := ⟨2, ![64, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

class Facts : Prop where
  shapeCasts_S64x128x768_S8192x768 : S64x128x768.ShapeCasts S8192x768
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  slices_S3x1024x64_S1x1024x64_0_0_0 : S3x1024x64.Slices ![0, 0, 0] S1x1024x64
  shapeCasts_S1x1024x64_S1024x64 : S1x1024x64.ShapeCasts S1024x64
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S1024x64_S64x1024_1_0 : S1024x64.Transposes [1, 0] S64x1024
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  reducesTo_S1024x64_S1024_d1 : S1024x64.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  natLt_1_32 : 1 < 32
  bcast_S_S8192 : S_.BroadcastsInDim S8192 (![] : Fin 0 → Fin S8192.rank)
  reducesTo_S8192_S_d0 : S8192.ReducesTo [0] S_
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x64_0 : S8192.BroadcastsInDim S8192x64 (![0] : Fin 1 → Fin S8192x64.rank)
  bcast_S_S8192x64 : S_.BroadcastsInDim S8192x64 (![] : Fin 0 → Fin S8192x64.rank)
  slices_S3x1024x64_S1x1024x64_1_0_0 : S3x1024x64.Slices ![1, 0, 0] S1x1024x64
  slices_S3x1024x64_S1x1024x64_2_0_0 : S3x1024x64.Slices ![2, 0, 0] S1x1024x64
  bcast_S_S3x1024x64 : S_.BroadcastsInDim S3x1024x64 (![] : Fin 0 → Fin S3x1024x64.rank)
  dot_S8192x768_S768x512_S8192x512_1_0_0_1_n_n_wf : DotDims.WF S8192x768 S768x512 S8192x512 [1] [0] [0] [1] [] []
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  dot_S8192x64_S64x1024_S8192x1024_1_0_0_1_n_n_wf : DotDims.WF S8192x64 S64x1024 S8192x1024 [1] [0] [0] [1] [] []
  gather_S1024x64_S8192x1_S8192x64_1_0_n_n_0_1_164_wf : GatherDims.WF S1024x64 S8192x1 S8192x64 [1] [0] [] [0] [] 1 ![1, 64]

variable [Facts]

variable {F : FTy → Type} [FloatOps F]
def dot_S8192x768_S768x512_S8192x512_1_0_0_1_n_n : DotDims S8192x768 S768x512 S8192x512 where
  lhsContracting := [1]
  rhsContracting := [0]
  lhsNonContracting := [0]
  rhsNonContracting := [1]
  lhsBatch := []
  rhsBatch := []
  wf := dot_S8192x768_S768x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x64_S8192x1_S8192x64_1_0_n_n_0_1_164 : GatherDims S1024x64 S8192x1 S8192x64 where
  offsetDims := [1]
  collapsedSliceDims := [0]
  operandBatchingDims := []
  startIndicesBatchingDims := []
  startIndexMap := [0]
  indexVectorDim := 1
  sliceSizes := ![1, 64]
  wf := gather_S1024x64_S8192x1_S8192x64_1_0_n_n_0_1_164_wf

def fn_relu {F : FTy → Type} [FloatOps F] (arg0 : FVec F S8192x512 .f32) : FVec F S8192x512 .f32 :=
  let cst : FVec F S_ .f32 := constant S_ .f32 0x00000000#32
  let v0 : FVec F S8192x512 .f32 := broadcastInDim S8192x512 ![] bcast_S_S8192x512 cst
  let v1 : FVec F S8192x512 .f32 := maximumf arg0 v0
  v1

def fn_relu_0 {F : FTy → Type} [FloatOps F] (arg0 : FVec F S8192x256 .f32) : FVec F S8192x256 .f32 :=
  let cst : FVec F S_ .f32 := constant S_ .f32 0x00000000#32
  let v0 : FVec F S8192x256 .f32 := broadcastInDim S8192x256 ![] bcast_S_S8192x256 cst
  let v1 : FVec F S8192x256 .f32 := maximumf arg0 v0
  v1

def fn_relu_1 {F : FTy → Type} [FloatOps F] (arg0 : FVec F S8192x128 .f32) : FVec F S8192x128 .f32 :=
  let cst : FVec F S_ .f32 := constant S_ .f32 0x00000000#32
  let v0 : FVec F S8192x128 .f32 := broadcastInDim S8192x128 ![] bcast_S_S8192x128 cst
  let v1 : FVec F S8192x128 .f32 := maximumf arg0 v0
  v1

def fn_argmin {F : FTy → Type} [FloatOps F] (arg0 : FVec F S8192x1024 .f32) : IVec S8192 32 :=
  let v0 : IVec S8192x1024 32 := iotaInDim S8192x1024 32 1
  let cst : FVec F S_ .f32 := constant S_ .f32 0x7F800000#32
  let c : IVec S_ 32 := constantI S_ 32 0#32
  let v1_0 : FVec F S8192 .f32 := (fun x y u v j => (Host.argReduce reducer_argmin_f32_i32 x y u v reducesTo_S8192x1024_S8192_d1 h_S_ j).1) arg0 v0 cst c
  let v1_1 : IVec S8192 32 := (fun x y u v j => (Host.argReduce reducer_argmin_f32_i32 x y u v reducesTo_S8192x1024_S8192_d1 h_S_ j).2) arg0 v0 cst c
  v1_1

def fn_where {F : FTy → Type} [FloatOps F] (arg0 : IVec S8192 1) (arg1 : IVec S8192 32) (arg2 : IVec S8192 32) : IVec S8192 32 :=
  let v0 : IVec S8192 32 := select arg0 arg1 arg2
  v0

def fn_take {F : FTy → Type} [FloatOps F] (arg0 : FVec F S1024x64 .f32) (arg1 : IVec S8192 32) : FVec F S8192x64 .f32 :=
  let c : IVec S_ 32 := constantI S_ 32 0#32
  let v0 : IVec S8192 32 := broadcastInDim S8192 ![] bcast_S_S8192 c
  let v1 : IVec S8192 1 := cmpi .slt arg1 v0
  let c_0 : IVec S_ 32 := constantI S_ 32 1024#32
  let v2 : IVec S8192 32 := broadcastInDim S8192 ![] bcast_S_S8192 c_0
  let v3 : IVec S8192 32 := addi arg1 v2
  let v4 : IVec S8192 32 := fn_where (F := F) v1 v3 arg1
  let v5 : IVec S8192x1 32 := broadcastInDim S8192x1 ![0] bcast_S8192_S8192x1_0 v4
  let c_1 : IVec S1 32 := constantI S1 32 1023#32
  let c_2 : IVec S_ 32 := constantI S_ 32 0#32
  let v6 : IVec S8192x1 32 := broadcastInDim S8192x1 ![] bcast_S_S8192x1 c_2
  let v7 : IVec S8192x1 1 := cmpi .sge v5 v6
  let v8 : IVec S1x1 32 := broadcastInDim S1x1 ![1] bcast_S1_S1x1_1 c_1
  let v9 : IVec S8192x1 32 := broadcastInDim S8192x1 ![0, 1] bcast_S1x1_S8192x1_0_1 v8
  let v10 : IVec S8192x1 1 := cmpi .sle v5 v9
  let v11 : IVec S8192x1 1 := andi v7 v10
  let c_3 : IVec S_ 1 := constantI S_ 1 1#1
  let v12 : IVec S8192 1 := (fun x v => Host.reduce IntOp.andi x v reducesTo_S8192x1_S8192_d1 h_S_) v11 c_3
  let v13 : FVec F S8192x64 .f32 := (fun x i => Host.gather gather_S1024x64_S8192x1_S8192x64_1_0_n_n_0_1_164 x i) arg0 v5
  let v14 : IVec S8192x64 1 := broadcastInDim S8192x64 ![0] bcast_S8192_S8192x64_0 v12
  let cst : FVec F S_ .f32 := constant S_ .f32 0x7FC00000#32
  let v15 : FVec F S8192x64 .f32 := broadcastInDim S8192x64 ![] bcast_S_S8192x64 cst
  let v16 : FVec F S8192x64 .f32 := select v14 v13 v15
  v16

def fn_part5 {F : FTy → Type} [FloatOps F] (main_arg4 : FVec F S3x1024x64 .f32) (main_v74 : IVec S_ 1) (main_v77 : FVec F S8192x64 .f32) (main_v79 : FVec F S1024x64 .f32) (main_v93 : FVec F S8192x1024 .f32) (main_v99 : IVec S8192 32) : IVec S3x1024x64 1 :=
  let main_c_18 : IVec S_ 32 := constantI S_ 32 1#32
  let main_v100 : IVec S8192 32 := broadcastInDim S8192 ![] bcast_S_S8192 main_c_18
  let main_v101 : IVec S8192 1 := cmpi .eq main_v99 main_v100
  let main_c_19 : IVec S_ 1 := constantI S_ 1 1#1
  let main_v102 : IVec S_ 1 := (fun x v => Host.reduce IntOp.andi x v reducesTo_S8192_S_d0 h_S_) main_v101 main_c_19
  let main_v103 : IVec S_ 1 := andi main_v74 main_v102
  let main_v104 : IVec S8192 32 := fn_argmin (F := F) main_v93
  let main_v105 : FVec F S8192x64 .f32 := fn_take (F := F) main_v79 main_v104
  let main_v106 : FVec F S8192x64 .f32 := subf main_v77 main_v105
  let main_v107 : FVec F S3x1024x64 .f32 := Host.absf main_arg4
  let main_cst_20 : FVec F S_ .f32 := constant S_ .f32 0x7F800000#32
  let main_v108 : FVec F S3x1024x64 .f32 := broadcastInDim S3x1024x64 ![] bcast_S_S3x1024x64 main_cst_20
  let main_v109 : IVec S3x1024x64 1 := cmpf .olt main_v107 main_v108
  let main_v110 : IVec S3x1024x64 1 := broadcastInDim S3x1024x64 ![] bcast_S_S3x1024x64 main_v103
  let main_v111 : IVec S3x1024x64 1 := andi main_v109 main_v110
  main_v111

def fn_part4 {F : FTy → Type} [FloatOps F] (main_arg4 : FVec F S3x1024x64 .f32) (main_v74 : IVec S_ 1) (main_v77 : FVec F S8192x64 .f32) (main_v79 : FVec F S1024x64 .f32) (main_v80 : FVec F S8192x64 .f32) : IVec S3x1024x64 1 :=
  let main_cst_13 : FVec F S_ .f32 := constant S_ .f32 0x00000000#32
  let main_v81 : FVec F S8192 .f32 := (fun x v => Host.reduceAdd x v reducesTo_S8192x64_S8192_d1 h_S_) main_v80 main_cst_13
  let main_v82 : FVec F S8192x1 .f32 := broadcastInDim S8192x1 ![0] bcast_S8192_S8192x1_0 main_v81
  let main_v83 : FVec F S64x1024 .f32 := (transpose S64x1024 [1, 0] · transposes_S1024x64_S64x1024_1_0) main_v79
  let main_v84 : FVec F S8192x1024 .f32 := (fun l r => Host.dotGeneral dot_S8192x64_S64x1024_S8192x1024_1_0_0_1_n_n none l r) main_v77 main_v83
  let main_cst_14 : FVec F S_ .f32 := constant S_ .f32 0x40000000#32
  let main_v85 : FVec F S8192x1024 .f32 := broadcastInDim S8192x1024 ![] bcast_S_S8192x1024 main_cst_14
  let main_v86 : FVec F S8192x1024 .f32 := mulf main_v85 main_v84
  let main_v87 : FVec F S8192x1024 .f32 := broadcastInDim S8192x1024 ![0, 1] bcast_S8192x1_S8192x1024_0_1 main_v82
  let main_v88 : FVec F S8192x1024 .f32 := subf main_v87 main_v86
  let main_v89 : FVec F S1024x64 .f32 := mulf main_v79 main_v79
  let main_cst_15 : FVec F S_ .f32 := constant S_ .f32 0x00000000#32
  let main_v90 : FVec F S1024 .f32 := (fun x v => Host.reduceAdd x v reducesTo_S1024x64_S1024_d1 h_S_) main_v89 main_cst_15
  let main_v91 : FVec F S1x1024 .f32 := broadcastInDim S1x1024 ![1] bcast_S1024_S1x1024_1 main_v90
  let main_v92 : FVec F S8192x1024 .f32 := broadcastInDim S8192x1024 ![0, 1] bcast_S1x1024_S8192x1024_0_1 main_v91
  let main_v93 : FVec F S8192x1024 .f32 := addf main_v88 main_v92
  let main_cst_16 : FVec F S_ .f32 := constant S_ .f32 0x7F800000#32
  let main_v94 : FVec F S8192 .f32 := (fun x v => Host.reduce FloatOps.minimumf x v reducesTo_S8192x1024_S8192_d1 h_S_) main_v93 main_cst_16
  let main_v95 : FVec F S8192x1 .f32 := broadcastInDim S8192x1 ![0] bcast_S8192_S8192x1_0 main_v94
  let main_v96 : FVec F S8192x1024 .f32 := broadcastInDim S8192x1024 ![0, 1] bcast_S8192x1_S8192x1024_0_1 main_v95
  let main_v97 : IVec S8192x1024 1 := cmpf .oeq main_v93 main_v96
  let main_v98 : IVec S8192x1024 32 := (extui 32 · natLt_1_32) main_v97
  let main_c_17 : IVec S_ 32 := constantI S_ 32 0#32
  let main_v99 : IVec S8192 32 := (fun x v => Host.reduce IntOp.addi x v reducesTo_S8192x1024_S8192_d1 h_S_) main_v98 main_c_17
  fn_part5 (F := F) main_arg4 main_v74 main_v77 main_v79 main_v93 main_v99

def fn_part3 {F : FTy → Type} [FloatOps F] (main_arg4 : FVec F S3x1024x64 .f32) (main_v45 : IVec S_ 1) (main_v48 : FVec F S8192x64 .f32) (main_v50 : FVec F S1024x64 .f32) (main_v59 : FVec F S8192x1024 .f32) (main_v60 : FVec F S1024x64 .f32) (main_cst_8 : FVec F S_ .f32) : IVec S3x1024x64 1 :=
  let main_v61 : FVec F S1024 .f32 := (fun x v => Host.reduceAdd x v reducesTo_S1024x64_S1024_d1 h_S_) main_v60 main_cst_8
  let main_v62 : FVec F S1x1024 .f32 := broadcastInDim S1x1024 ![1] bcast_S1024_S1x1024_1 main_v61
  let main_v63 : FVec F S8192x1024 .f32 := broadcastInDim S8192x1024 ![0, 1] bcast_S1x1024_S8192x1024_0_1 main_v62
  let main_v64 : FVec F S8192x1024 .f32 := addf main_v59 main_v63
  let main_cst_9 : FVec F S_ .f32 := constant S_ .f32 0x7F800000#32
  let main_v65 : FVec F S8192 .f32 := (fun x v => Host.reduce FloatOps.minimumf x v reducesTo_S8192x1024_S8192_d1 h_S_) main_v64 main_cst_9
  let main_v66 : FVec F S8192x1 .f32 := broadcastInDim S8192x1 ![0] bcast_S8192_S8192x1_0 main_v65
  let main_v67 : FVec F S8192x1024 .f32 := broadcastInDim S8192x1024 ![0, 1] bcast_S8192x1_S8192x1024_0_1 main_v66
  let main_v68 : IVec S8192x1024 1 := cmpf .oeq main_v64 main_v67
  let main_v69 : IVec S8192x1024 32 := (extui 32 · natLt_1_32) main_v68
  let main_c_10 : IVec S_ 32 := constantI S_ 32 0#32
  let main_v70 : IVec S8192 32 := (fun x v => Host.reduce IntOp.addi x v reducesTo_S8192x1024_S8192_d1 h_S_) main_v69 main_c_10
  let main_c_11 : IVec S_ 32 := constantI S_ 32 1#32
  let main_v71 : IVec S8192 32 := broadcastInDim S8192 ![] bcast_S_S8192 main_c_11
  let main_v72 : IVec S8192 1 := cmpi .eq main_v70 main_v71
  let main_c_12 : IVec S_ 1 := constantI S_ 1 1#1
  let main_v73 : IVec S_ 1 := (fun x v => Host.reduce IntOp.andi x v reducesTo_S8192_S_d0 h_S_) main_v72 main_c_12
  let main_v74 : IVec S_ 1 := andi main_v45 main_v73
  let main_v75 : IVec S8192 32 := fn_argmin (F := F) main_v64
  let main_v76 : FVec F S8192x64 .f32 := fn_take (F := F) main_v50 main_v75
  let main_v77 : FVec F S8192x64 .f32 := subf main_v48 main_v76
  let main_v78 : FVec F S1x1024x64 .f32 := (extractStridedSlice S1x1024x64 ![2, 0, 0] · slices_S3x1024x64_S1x1024x64_2_0_0) main_arg4
  let main_v79 : FVec F S1024x64 .f32 := shapeCast S1024x64 main_v78 shapeCasts_S1x1024x64_S1024x64
  let main_v80 : FVec F S8192x64 .f32 := mulf main_v77 main_v77
  fn_part4 (F := F) main_arg4 main_v74 main_v77 main_v79 main_v80

def fn_part2 {F : FTy → Type} [FloatOps F] (main_arg4 : FVec F S3x1024x64 .f32) (main_v19 : FVec F S8192x64 .f32) (main_v21 : FVec F S1024x64 .f32) (main_v35 : FVec F S8192x1024 .f32) (main_v41 : IVec S8192 32) (main_c_3 : IVec S_ 32) : IVec S3x1024x64 1 :=
  let main_v42 : IVec S8192 32 := broadcastInDim S8192 ![] bcast_S_S8192 main_c_3
  let main_v43 : IVec S8192 1 := cmpi .eq main_v41 main_v42
  let main_c_4 : IVec S_ 1 := constantI S_ 1 1#1
  let main_v44 : IVec S_ 1 := (fun x v => Host.reduce IntOp.andi x v reducesTo_S8192_S_d0 h_S_) main_v43 main_c_4
  let main_c_5 : IVec S_ 1 := constantI S_ 1 1#1
  let main_v45 : IVec S_ 1 := andi main_c_5 main_v44
  let main_v46 : IVec S8192 32 := fn_argmin (F := F) main_v35
  let main_v47 : FVec F S8192x64 .f32 := fn_take (F := F) main_v21 main_v46
  let main_v48 : FVec F S8192x64 .f32 := subf main_v19 main_v47
  let main_v49 : FVec F S1x1024x64 .f32 := (extractStridedSlice S1x1024x64 ![1, 0, 0] · slices_S3x1024x64_S1x1024x64_1_0_0) main_arg4
  let main_v50 : FVec F S1024x64 .f32 := shapeCast S1024x64 main_v49 shapeCasts_S1x1024x64_S1024x64
  let main_v51 : FVec F S8192x64 .f32 := mulf main_v48 main_v48
  let main_cst_6 : FVec F S_ .f32 := constant S_ .f32 0x00000000#32
  let main_v52 : FVec F S8192 .f32 := (fun x v => Host.reduceAdd x v reducesTo_S8192x64_S8192_d1 h_S_) main_v51 main_cst_6
  let main_v53 : FVec F S8192x1 .f32 := broadcastInDim S8192x1 ![0] bcast_S8192_S8192x1_0 main_v52
  let main_v54 : FVec F S64x1024 .f32 := (transpose S64x1024 [1, 0] · transposes_S1024x64_S64x1024_1_0) main_v50
  let main_v55 : FVec F S8192x1024 .f32 := (fun l r => Host.dotGeneral dot_S8192x64_S64x1024_S8192x1024_1_0_0_1_n_n none l r) main_v48 main_v54
  let main_cst_7 : FVec F S_ .f32 := constant S_ .f32 0x40000000#32
  let main_v56 : FVec F S8192x1024 .f32 := broadcastInDim S8192x1024 ![] bcast_S_S8192x1024 main_cst_7
  let main_v57 : FVec F S8192x1024 .f32 := mulf main_v56 main_v55
  let main_v58 : FVec F S8192x1024 .f32 := broadcastInDim S8192x1024 ![0, 1] bcast_S8192x1_S8192x1024_0_1 main_v53
  let main_v59 : FVec F S8192x1024 .f32 := subf main_v58 main_v57
  let main_v60 : FVec F S1024x64 .f32 := mulf main_v50 main_v50
  let main_cst_8 : FVec F S_ .f32 := constant S_ .f32 0x00000000#32
  fn_part3 (F := F) main_arg4 main_v45 main_v48 main_v50 main_v59 main_v60 main_cst_8

def fn_part1 {F : FTy → Type} [FloatOps F] (main_arg4 : FVec F S3x1024x64 .f32) (main_v19 : FVec F S8192x64 .f32) (main_v21 : FVec F S1024x64 .f32) (main_v22 : FVec F S8192x64 .f32) (main_cst : FVec F S_ .f32) : IVec S3x1024x64 1 :=
  let main_v23 : FVec F S8192 .f32 := (fun x v => Host.reduceAdd x v reducesTo_S8192x64_S8192_d1 h_S_) main_v22 main_cst
  let main_v24 : FVec F S8192x1 .f32 := broadcastInDim S8192x1 ![0] bcast_S8192_S8192x1_0 main_v23
  let main_v25 : FVec F S64x1024 .f32 := (transpose S64x1024 [1, 0] · transposes_S1024x64_S64x1024_1_0) main_v21
  let main_v26 : FVec F S8192x1024 .f32 := (fun l r => Host.dotGeneral dot_S8192x64_S64x1024_S8192x1024_1_0_0_1_n_n none l r) main_v19 main_v25
  let main_cst_0 : FVec F S_ .f32 := constant S_ .f32 0x40000000#32
  let main_v27 : FVec F S8192x1024 .f32 := broadcastInDim S8192x1024 ![] bcast_S_S8192x1024 main_cst_0
  let main_v28 : FVec F S8192x1024 .f32 := mulf main_v27 main_v26
  let main_v29 : FVec F S8192x1024 .f32 := broadcastInDim S8192x1024 ![0, 1] bcast_S8192x1_S8192x1024_0_1 main_v24
  let main_v30 : FVec F S8192x1024 .f32 := subf main_v29 main_v28
  let main_v31 : FVec F S1024x64 .f32 := mulf main_v21 main_v21
  let main_cst_1 : FVec F S_ .f32 := constant S_ .f32 0x00000000#32
  let main_v32 : FVec F S1024 .f32 := (fun x v => Host.reduceAdd x v reducesTo_S1024x64_S1024_d1 h_S_) main_v31 main_cst_1
  let main_v33 : FVec F S1x1024 .f32 := broadcastInDim S1x1024 ![1] bcast_S1024_S1x1024_1 main_v32
  let main_v34 : FVec F S8192x1024 .f32 := broadcastInDim S8192x1024 ![0, 1] bcast_S1x1024_S8192x1024_0_1 main_v33
  let main_v35 : FVec F S8192x1024 .f32 := addf main_v30 main_v34
  let main_cst_2 : FVec F S_ .f32 := constant S_ .f32 0x7F800000#32
  let main_v36 : FVec F S8192 .f32 := (fun x v => Host.reduce FloatOps.minimumf x v reducesTo_S8192x1024_S8192_d1 h_S_) main_v35 main_cst_2
  let main_v37 : FVec F S8192x1 .f32 := broadcastInDim S8192x1 ![0] bcast_S8192_S8192x1_0 main_v36
  let main_v38 : FVec F S8192x1024 .f32 := broadcastInDim S8192x1024 ![0, 1] bcast_S8192x1_S8192x1024_0_1 main_v37
  let main_v39 : IVec S8192x1024 1 := cmpf .oeq main_v35 main_v38
  let main_v40 : IVec S8192x1024 32 := (extui 32 · natLt_1_32) main_v39
  let main_c : IVec S_ 32 := constantI S_ 32 0#32
  let main_v41 : IVec S8192 32 := (fun x v => Host.reduce IntOp.addi x v reducesTo_S8192x1024_S8192_d1 h_S_) main_v40 main_c
  let main_c_3 : IVec S_ 32 := constantI S_ 32 1#32
  fn_part2 (F := F) main_arg4 main_v19 main_v21 main_v35 main_v41 main_c_3

def fn {F : FTy → Type} [FloatOps F] (main_arg0 : FVec F S64x128x768 .f32) (main_arg1 : IVec S64x128 32) (main_arg2 : IVec S64 32) (main_arg3 : IVec S64x128 1) (main_arg4 : FVec F S3x1024x64 .f32) (main_arg5 : FVec F S768x512 .f32) (main_arg6 : FVec F S512 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) : IVec S3x1024x64 1 :=
  let main_v0 : FVec F S8192x768 .f32 := shapeCast S8192x768 main_arg0 shapeCasts_S64x128x768_S8192x768
  let main_v1 : FVec F S8192x512 .f32 := (fun l r => Host.dotGeneral dot_S8192x768_S768x512_S8192x512_1_0_0_1_n_n none l r) main_v0 main_arg5
  let main_v2 : FVec F S1x512 .f32 := broadcastInDim S1x512 ![1] bcast_S512_S1x512_1 main_arg6
  let main_v3 : FVec F S8192x512 .f32 := broadcastInDim S8192x512 ![0, 1] bcast_S1x512_S8192x512_0_1 main_v2
  let main_v4 : FVec F S8192x512 .f32 := addf main_v1 main_v3
  let main_v5 : FVec F S8192x512 .f32 := fn_relu (F := F) main_v4
  let main_v6 : FVec F S8192x256 .f32 := (fun l r => Host.dotGeneral dot_S8192x512_S512x256_S8192x256_1_0_0_1_n_n none l r) main_v5 main_arg7
  let main_v7 : FVec F S1x256 .f32 := broadcastInDim S1x256 ![1] bcast_S256_S1x256_1 main_arg8
  let main_v8 : FVec F S8192x256 .f32 := broadcastInDim S8192x256 ![0, 1] bcast_S1x256_S8192x256_0_1 main_v7
  let main_v9 : FVec F S8192x256 .f32 := addf main_v6 main_v8
  let main_v10 : FVec F S8192x256 .f32 := fn_relu_0 (F := F) main_v9
  let main_v11 : FVec F S8192x128 .f32 := (fun l r => Host.dotGeneral dot_S8192x256_S256x128_S8192x128_1_0_0_1_n_n none l r) main_v10 main_arg9
  let main_v12 : FVec F S1x128 .f32 := broadcastInDim S1x128 ![1] bcast_S128_S1x128_1 main_arg10
  let main_v13 : FVec F S8192x128 .f32 := broadcastInDim S8192x128 ![0, 1] bcast_S1x128_S8192x128_0_1 main_v12
  let main_v14 : FVec F S8192x128 .f32 := addf main_v11 main_v13
  let main_v15 : FVec F S8192x128 .f32 := fn_relu_1 (F := F) main_v14
  let main_v16 : FVec F S8192x64 .f32 := (fun l r => Host.dotGeneral dot_S8192x128_S128x64_S8192x64_1_0_0_1_n_n none l r) main_v15 main_arg11
  let main_v17 : FVec F S1x64 .f32 := broadcastInDim S1x64 ![1] bcast_S64_S1x64_1 main_arg12
  let main_v18 : FVec F S8192x64 .f32 := broadcastInDim S8192x64 ![0, 1] bcast_S1x64_S8192x64_0_1 main_v17
  let main_v19 : FVec F S8192x64 .f32 := addf main_v16 main_v18
  let main_v20 : FVec F S1x1024x64 .f32 := (extractStridedSlice S1x1024x64 ![0, 0, 0] · slices_S3x1024x64_S1x1024x64_0_0_0) main_arg4
  let main_v21 : FVec F S1024x64 .f32 := shapeCast S1024x64 main_v20 shapeCasts_S1x1024x64_S1024x64
  let main_v22 : FVec F S8192x64 .f32 := mulf main_v19 main_v19
  let main_cst : FVec F S_ .f32 := constant S_ .f32 0x00000000#32
  fn_part1 (F := F) main_arg4 main_v19 main_v21 main_v22 main_cst
-- ==== Kernel.lean ====
abbrev S64x128x768 : Shape := ⟨3, ![64, 128, 768]⟩
abbrev S64x128 : Shape := ⟨2, ![64, 128]⟩
abbrev S64 : Shape := ⟨1, ![64]⟩
abbrev S3x1024x64 : Shape := ⟨3, ![3, 1024, 64]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S8192x768 : Shape := ⟨2, ![8192, 768]⟩
abbrev S3x64x1024 : Shape := ⟨3, ![3, 64, 1024]⟩
abbrev S1x512 : Shape := ⟨2, ![1, 512]⟩
abbrev S1x256 : Shape := ⟨2, ![1, 256]⟩
abbrev S1x128 : Shape := ⟨2, ![1, 128]⟩
abbrev S1x64 : Shape := ⟨2, ![1, 64]⟩
abbrev S8192x3 : Shape := ⟨2, ![8192, 3]⟩
abbrev S1024x768 : Shape := ⟨2, ![1024, 768]⟩
abbrev S1024x3 : Shape := ⟨2, ![1024, 3]⟩
abbrev S1024x256 : Shape := ⟨2, ![1024, 256]⟩
abbrev S256x512 : Shape := ⟨2, ![256, 512]⟩
abbrev S1024x512 : Shape := ⟨2, ![1024, 512]⟩
abbrev S256x256 : Shape := ⟨2, ![256, 256]⟩
abbrev S1024x128 : Shape := ⟨2, ![1024, 128]⟩
abbrev S1024x64 : Shape := ⟨2, ![1024, 64]⟩
abbrev S512x1024 : Shape := ⟨2, ![512, 1024]⟩
abbrev S512x64 : Shape := ⟨2, ![512, 64]⟩
abbrev S1x64x1024 : Shape := ⟨3, ![1, 64, 1024]⟩
abbrev S64x1024 : Shape := ⟨2, ![64, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S512x8 : Shape := ⟨2, ![512, 8]⟩
abbrev S512x4 : Shape := ⟨2, ![512, 4]⟩
abbrev S512x2 : Shape := ⟨2, ![512, 2]⟩
abbrev S512x1 : Shape := ⟨2, ![512, 1]⟩
abbrev S1x1024x64 : Shape := ⟨3, ![1, 1024, 64]⟩
abbrev S64x384 : Shape := ⟨2, ![64, 384]⟩
abbrev S64x128x3 : Shape := ⟨3, ![64, 128, 3]⟩

abbrev nBuf : Space → Nat
  | .hbm => 30
  | .vmem => 16
  | .smem => 0
  | _ => 0

abbrev bufTy : (tb : Table) → Fin (tcTables nBuf tb) → BufTy
  | .hbm, ⟨0, _⟩ => ⟨S64x128x768, .f32⟩
  | .hbm, ⟨1, _⟩ => ⟨S64x128, .i32⟩
  | .hbm, ⟨2, _⟩ => ⟨S64, .i32⟩
  | .hbm, ⟨3, _⟩ => ⟨S64x128, .i1⟩
  | .hbm, ⟨4, _⟩ => ⟨S3x1024x64, .f32⟩
  | .hbm, ⟨5, _⟩ => ⟨S768x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S8192x768, .f32⟩
  | .hbm, ⟨14, _⟩ => ⟨S3x64x1024, .f32⟩
  | .hbm, ⟨15, _⟩ => ⟨S3x1024x64, .bf16⟩
  | .hbm, ⟨16, _⟩ => ⟨S3x1024x64, .f32⟩
  | .hbm, ⟨17, _⟩ => ⟨S3x1024x64, .f32⟩
  | .hbm, ⟨18, _⟩ => ⟨S3x1024x64, .bf16⟩
  | .hbm, ⟨19, _⟩ => ⟨S3x1024x64, .f32⟩
  | .hbm, ⟨20, _⟩ => ⟨S3x1024x64, .f32⟩
  | .hbm, ⟨21, _⟩ => ⟨S3x1024x64, .bf16⟩
  | .hbm, ⟨22, _⟩ => ⟨S1x512, .f32⟩
  | .hbm, ⟨23, _⟩ => ⟨S1x256, .f32⟩
  | .hbm, ⟨24, _⟩ => ⟨S1x128, .f32⟩
  | .hbm, ⟨25, _⟩ => ⟨S1x64, .f32⟩
  | .hbm, ⟨26, _⟩ => ⟨S8192x3, .i32⟩
  | .hbm, ⟨27, _⟩ => ⟨S64x384, .i32⟩
  | .hbm, ⟨28, _⟩ => ⟨S64x128x3, .i1⟩
  | .hbm, ⟨29, _⟩ => ⟨S64x384, .i1⟩
  | .local _ .vmem, ⟨0, _⟩ => ⟨S1024x768, .f32⟩
  | .local _ .vmem, ⟨1, _⟩ => ⟨S1024x768, .f32⟩
  | .local _ .vmem, ⟨2, _⟩ => ⟨S3x64x1024, .f32⟩
  | .local _ .vmem, ⟨3, _⟩ => ⟨S3x1024x64, .bf16⟩
  | .local _ .vmem, ⟨4, _⟩ => ⟨S3x1024x64, .bf16⟩
  | .local _ .vmem, ⟨5, _⟩ => ⟨S3x1024x64, .bf16⟩
  | .local _ .vmem, ⟨6, _⟩ => ⟨S768x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S1024x3, .i32⟩
  | .local _ .vmem, ⟨15, _⟩ => ⟨S1024x3, .i32⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x3 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S64x128x768 : Shape := ⟨3, ![64, 128, 768]⟩
abbrev S64x128 : Shape := ⟨2, ![64, 128]⟩
abbrev S64 : Shape := ⟨1, ![64]⟩
abbrev S3x1024x64 : Shape := ⟨3, ![3, 1024, 64]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S8192x768 : Shape := ⟨2, ![8192, 768]⟩
abbrev S8192x512 : Shape := ⟨2, ![8192, 512]⟩
abbrev S1x512 : Shape := ⟨2, ![1, 512]⟩
abbrev S_ : Shape := ⟨0, ![]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S1x1024x64 : Shape := ⟨3, ![1, 1024, 64]⟩
abbrev S1024x64 : Shape := ⟨2, ![1024, 64]⟩
abbrev S8192 : Shape := ⟨1, ![8192]⟩
abbrev S8192x1 : Shape := ⟨2, ![8192, 1]⟩
abbrev S64x1024 : Shape := ⟨2, ![64, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8192x3 : Shape := ⟨2, ![8192, 3]⟩
abbrev S64x384 : Shape := ⟨2, ![64, 384]⟩
abbrev S64x128x3 : Shape := ⟨3, ![64, 128, 3]⟩

abbrev nBuf : Space → Nat
  | .hbm => 190
  | .vmem => 0
  | .smem => 0
  | _ => 0

abbrev hbmTy0_0 (i : Nat) : BufTy := match i % 128 with
  | 0 => ⟨S64x128x768, .f32⟩
  | 1 => ⟨S64x128, .i32⟩
  | 2 => ⟨S64, .i32⟩
  | 3 => ⟨S64x128, .i1⟩
  | 4 => ⟨S3x1024x64, .f32⟩
  | 5 => ⟨S768x512, .f32⟩
  | 6 => ⟨S512, .f32⟩
  | 7 => ⟨S512x256, .f32⟩
  | 8 => ⟨S256, .f32⟩
  | 9 => ⟨S256x128, .f32⟩
  | 10 => ⟨S128, .f32⟩
  | 11 => ⟨S128x64, .f32⟩
  | 12 => ⟨S64, .f32⟩
  | 13 => ⟨S8192x768, .f32⟩
  | 14 => ⟨S8192x512, .f32⟩
  | 15 => ⟨S1x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x256, .f32⟩
  | 22 => ⟨S1x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x128, .f32⟩
  | 29 => ⟨S1x128, .f32⟩
  | 30 => ⟨S8192x128, .f32⟩
  | 31 => ⟨S8192x128, .f32⟩
  | 32 => ⟨S_, .f32⟩
  | 33 => ⟨S8192x128, .f32⟩
  | 34 => ⟨S8192x128, .f32⟩
  | 35 => ⟨S8192x64, .f32⟩
  | 36 => ⟨S1x64, .f32⟩
  | 37 => ⟨S8192x64, .f32⟩
  | 38 => ⟨S8192x64, .f32⟩
  | 39 => ⟨S1x1024x64, .f32⟩
  | 40 => ⟨S1024x64, .f32⟩
  | 41 => ⟨S8192x64, .f32⟩
  | 42 => ⟨S_, .f32⟩
  | 43 => ⟨S8192, .f32⟩
  | 44 => ⟨S8192x1, .f32⟩
  | 45 => ⟨S64x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S1024x64, .f32⟩
  | 53 => ⟨S_, .f32⟩
  | 54 => ⟨S1024, .f32⟩
  | 55 => ⟨S1x1024, .f32⟩
  | 56 => ⟨S8192x1024, .f32⟩
  | 57 => ⟨S8192x1024, .f32⟩
  | 58 => ⟨S8192x1024, .i32⟩
  | 59 => ⟨S_, .f32⟩
  | 60 => ⟨S_, .i32⟩
  | 61 => ⟨S8192, .f32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S1, .i32⟩
  | 72 => ⟨S_, .i32⟩
  | 73 => ⟨S8192x1, .i32⟩
  | 74 => ⟨S8192x1, .i1⟩
  | 75 => ⟨S1x1, .i32⟩
  | 76 => ⟨S8192x1, .i32⟩
  | 77 => ⟨S8192x1, .i1⟩
  | 78 => ⟨S8192x1, .i1⟩
  | 79 => ⟨S_, .i1⟩
  | 80 => ⟨S8192, .i1⟩
  | 81 => ⟨S8192x64, .f32⟩
  | 82 => ⟨S8192x64, .i1⟩
  | 83 => ⟨S_, .f32⟩
  | 84 => ⟨S8192x64, .f32⟩
  | 85 => ⟨S8192x64, .f32⟩
  | 86 => ⟨S8192x64, .f32⟩
  | 87 => ⟨S1x1024x64, .f32⟩
  | 88 => ⟨S1024x64, .f32⟩
  | 89 => ⟨S8192x64, .f32⟩
  | 90 => ⟨S_, .f32⟩
  | 91 => ⟨S8192, .f32⟩
  | 92 => ⟨S8192x1, .f32⟩
  | 93 => ⟨S64x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S1024x64, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S8192x1024, .i32⟩
  | 107 => ⟨S_, .f32⟩
  | 108 => ⟨S_, .i32⟩
  | 109 => ⟨S8192, .f32⟩
  | 110 => ⟨S8192, .i32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S1, .i32⟩
  | 120 => ⟨S_, .i32⟩
  | 121 => ⟨S8192x1, .i32⟩
  | 122 => ⟨S8192x1, .i1⟩
  | 123 => ⟨S1x1, .i32⟩
  | 124 => ⟨S8192x1, .i32⟩
  | 125 => ⟨S8192x1, .i1⟩
  | 126 => ⟨S8192x1, .i1⟩
  | 127 => ⟨S_, .i1⟩
  | _ => ⟨S64x128x768, .f32⟩

abbrev hbmTy0_1 (i : Nat) : BufTy := match i % 128 with
  | 0 => ⟨S8192, .i1⟩
  | 1 => ⟨S8192x64, .f32⟩
  | 2 => ⟨S8192x64, .i1⟩
  | 3 => ⟨S_, .f32⟩
  | 4 => ⟨S8192x64, .f32⟩
  | 5 => ⟨S8192x64, .f32⟩
  | 6 => ⟨S8192x64, .f32⟩
  | 7 => ⟨S1x1024x64, .f32⟩
  | 8 => ⟨S1024x64, .f32⟩
  | 9 => ⟨S8192x64, .f32⟩
  | 10 => ⟨S_, .f32⟩
  | 11 => ⟨S8192, .f32⟩
  | 12 => ⟨S8192x1, .f32⟩
  | 13 => ⟨S64x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S1024x64, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S8192x1024, .i32⟩
  | 27 => ⟨S_, .f32⟩
  | 28 => ⟨S_, .i32⟩
  | 29 => ⟨S8192, .f32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S1, .i32⟩
  | 40 => ⟨S_, .i32⟩
  | 41 => ⟨S8192x1, .i32⟩
  | 42 => ⟨S8192x1, .i1⟩
  | 43 => ⟨S1x1, .i32⟩
  | 44 => ⟨S8192x1, .i32⟩
  | 45 => ⟨S8192x1, .i1⟩
  | 46 => ⟨S8192x1, .i1⟩
  | 47 => ⟨S_, .i1⟩
  | 48 => ⟨S8192, .i1⟩
  | 49 => ⟨S8192x64, .f32⟩
  | 50 => ⟨S8192x64, .i1⟩
  | 51 => ⟨S_, .f32⟩
  | 52 => ⟨S8192x64, .f32⟩
  | 53 => ⟨S8192x64, .f32⟩
  | 54 => ⟨S8192x64, .f32⟩
  | 55 => ⟨S8192x1, .i32⟩
  | 56 => ⟨S8192x1, .i32⟩
  | 57 => ⟨S8192x1, .i32⟩
  | 58 => ⟨S8192x3, .i32⟩
  | 59 => ⟨S64x384, .i32⟩
  | 60 => ⟨S64x128x3, .i1⟩
  | 61 => ⟨S64x384, .i1⟩
  | _ => ⟨S64x128x768, .f32⟩

abbrev hbmTy (i : Nat) : BufTy := match i / 128 with
  | 0 => hbmTy0_0 i
  | 1 => hbmTy0_1 i
  | _ => ⟨S64x128x768, .f32⟩

abbrev bufTy : (tb : Table) → Fin (tcTables nBuf tb) → BufTy
  | .hbm, ⟨i, _⟩ => hbmTy i
  | _, _ => ⟨S64x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call2_cst : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call3_v0 : Ref sig .tc := ⟨.hbm, 58, rfl⟩
abbrev main_call3_cst : Ref sig .tc := ⟨.hbm, 59, rfl⟩
abbrev main_call3_c : Ref sig .tc := ⟨.hbm, 60, rfl⟩
abbrev main_call3_v1_0 : Ref sig .tc := ⟨.hbm, 61, rfl⟩
abbrev main_v36 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_call4_cst : Ref sig .tc := ⟨.hbm, 83, rfl⟩
abbrev main_call4_v15 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_2 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_3 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_4 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_call5_v0 : Ref sig .tc := ⟨.hbm, 106, rfl⟩
abbrev main_call5_cst : Ref sig .tc := ⟨.hbm, 107, rfl⟩
abbrev main_call5_c : Ref sig .tc := ⟨.hbm, 108, rfl⟩
abbrev main_call5_v1_0 : Ref sig .tc := ⟨.hbm, 109, rfl⟩
abbrev main_v55 : Ref sig .tc := ⟨.hbm, 110, rfl⟩
abbrev main_call6_c : Ref sig .tc := ⟨.hbm, 111, rfl⟩
abbrev main_call6_v0 : Ref sig .tc := ⟨.hbm, 112, rfl⟩
abbrev main_call6_v1 : Ref sig .tc := ⟨.hbm, 113, rfl⟩
abbrev main_call6_c_0 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_c_1 : Ref sig .tc := ⟨.hbm, 119, rfl⟩
abbrev main_call6_c_2 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_call6_c_3 : Ref sig .tc := ⟨.hbm, 127, rfl⟩
abbrev main_call6_v12 : Ref sig .tc := ⟨.hbm, 128, rfl⟩
abbrev main_call6_v13 : Ref sig .tc := ⟨.hbm, 129, rfl⟩
abbrev main_call6_v14 : Ref sig .tc := ⟨.hbm, 130, rfl⟩
abbrev main_call6_cst : Ref sig .tc := ⟨.hbm, 131, rfl⟩
abbrev main_call6_v15 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_cst_5 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_6 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_cst_7 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_call7_v0 : Ref sig .tc := ⟨.hbm, 154, rfl⟩
abbrev main_call7_cst : Ref sig .tc := ⟨.hbm, 155, rfl⟩
abbrev main_call7_c : Ref sig .tc := ⟨.hbm, 156, rfl⟩
abbrev main_call7_v1_0 : Ref sig .tc := ⟨.hbm, 157, rfl⟩
abbrev main_v74 : Ref sig .tc := ⟨.hbm, 158, rfl⟩
abbrev main_call8_c : Ref sig .tc := ⟨.hbm, 159, rfl⟩
abbrev main_call8_v0 : Ref sig .tc := ⟨.hbm, 160, rfl⟩
abbrev main_call8_v1 : Ref sig .tc := ⟨.hbm, 161, rfl⟩
abbrev main_call8_c_0 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_v5 : Ref sig .tc := ⟨.hbm, 166, rfl⟩
abbrev main_call8_c_1 : Ref sig .tc := ⟨.hbm, 167, rfl⟩
abbrev main_call8_c_2 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_call8_c_3 : Ref sig .tc := ⟨.hbm, 175, rfl⟩
abbrev main_call8_v12 : Ref sig .tc := ⟨.hbm, 176, rfl⟩
abbrev main_call8_v13 : Ref sig .tc := ⟨.hbm, 177, rfl⟩
abbrev main_call8_v14 : Ref sig .tc := ⟨.hbm, 178, rfl⟩
abbrev main_call8_cst : Ref sig .tc := ⟨.hbm, 179, rfl⟩
abbrev main_call8_v15 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩

abbrev nD : Nat := 1
abbrev τ : Topo := Topo.v7x

variable {F : FTy → Type} [FloatOps F]
-- ==== Proof.RefOps.lean ====
/- The reference's host program as lists of its operations, cut where one stage of the computation ends and
   the next begins: the encoder, then per level the distances, the nearest codewords and the residual, then the
   results. The program is these lists run in order (`main_eq`), and a buffer that a list does not write keeps its
   contents through it (`…_keep`). -/
module

public import proofs.«01_k».proof.Proof.Gen.ReferenceIdeal
public import Idealize.ShloMosaic.Lib.StableHlo.Run

@[expose] public section

set_option maxRecDepth 16384
set_option Elab.async false

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- An array of shape `s` and element type `e`. -/
abbrev Arr (F : FTy → Type) (s : Shape) (e : EltTy) : Type := (⟨s, e⟩ : BufTy).Contents (Elt F)

/-- Three columns of codes, side by side. -/
def columns (a b c : Arr F S8192x1 .i32) : Arr F S8192x3 .i32 :=
  concatenate S8192x3 1 [⟨S8192x1, a⟩, ⟨S8192x1, b⟩, ⟨S8192x1, c⟩] concatenates_S8192x1_S8192x1_S8192x1_S8192x3_d1

/-! ## The operations, stage by stage -/

/-- Operations of the encoder: the tokens flattened, three dense layers with relu and a fourth without. -/
abbrev encOps : List (HloOp τ sig (Elt F)) :=
  [ reshape main_arg0 main_v0 (rfl : (.f32 : EltTy) = .f32) shapeCasts_S64x128x768_S8192x768,
    binary main_v0 main_arg5 main_v1 ((fun l r => Host.dotGeneral dot_S8192x768_S768x512_S8192x512_1_0_0_1_n_n none l r) : Arr F S8192x768 .f32 → Arr F S768x512 .f32 → Arr F S8192x512 .f32),
    unary main_arg6 main_v2 (broadcastInDim S1x512 ![1] bcast_S512_S1x512_1 : Arr F S512 .f32 → Arr F S1x512 .f32),
    unary main_v2 main_v3 (broadcastInDim S8192x512 ![0, 1] bcast_S1x512_S8192x512_0_1 : Arr F S1x512 .f32 → Arr F S8192x512 .f32),
    binary main_v1 main_v3 main_v4 (addf : Arr F S8192x512 .f32 → Arr F S8192x512 .f32 → Arr F S8192x512 .f32),
    TRef.nullary (.of (T := ⟨S_, .f32⟩) main_call0_cst) (constant S_ .f32 0x00000000#32),
    TRef.unary (.of (T := ⟨S_, .f32⟩) main_call0_cst) (.of (T := ⟨S8192x512, .f32⟩) main_call0_v0) (broadcastInDim S8192x512 ![] bcast_S_S8192x512),
    TRef.binary (.of (T := ⟨S8192x512, .f32⟩) main_v4) (.of (T := ⟨S8192x512, .f32⟩) main_call0_v0) (.of (T := ⟨S8192x512, .f32⟩) main_v5) maximumf,
    binary main_v5 main_arg7 main_v6 ((fun l r => Host.dotGeneral dot_S8192x512_S512x256_S8192x256_1_0_0_1_n_n none l r) : Arr F S8192x512 .f32 → Arr F S512x256 .f32 → Arr F S8192x256 .f32),
    unary main_arg8 main_v7 (broadcastInDim S1x256 ![1] bcast_S256_S1x256_1 : Arr F S256 .f32 → Arr F S1x256 .f32),
    unary main_v7 main_v8 (broadcastInDim S8192x256 ![0, 1] bcast_S1x256_S8192x256_0_1 : Arr F S1x256 .f32 → Arr F S8192x256 .f32),
    binary main_v6 main_v8 main_v9 (addf : Arr F S8192x256 .f32 → Arr F S8192x256 .f32 → Arr F S8192x256 .f32),
    TRef.nullary (.of (T := ⟨S_, .f32⟩) main_call1_cst) (constant S_ .f32 0x00000000#32),
    TRef.unary (.of (T := ⟨S_, .f32⟩) main_call1_cst) (.of (T := ⟨S8192x256, .f32⟩) main_call1_v0) (broadcastInDim S8192x256 ![] bcast_S_S8192x256),
    TRef.binary (.of (T := ⟨S8192x256, .f32⟩) main_v9) (.of (T := ⟨S8192x256, .f32⟩) main_call1_v0) (.of (T := ⟨S8192x256, .f32⟩) main_v10) maximumf,
    binary main_v10 main_arg9 main_v11 ((fun l r => Host.dotGeneral dot_S8192x256_S256x128_S8192x128_1_0_0_1_n_n none l r) : Arr F S8192x256 .f32 → Arr F S256x128 .f32 → Arr F S8192x128 .f32),
    unary main_arg10 main_v12 (broadcastInDim S1x128 ![1] bcast_S128_S1x128_1 : Arr F S128 .f32 → Arr F S1x128 .f32),
    unary main_v12 main_v13 (broadcastInDim S8192x128 ![0, 1] bcast_S1x128_S8192x128_0_1 : Arr F S1x128 .f32 → Arr F S8192x128 .f32),
    binary main_v11 main_v13 main_v14 (addf : Arr F S8192x128 .f32 → Arr F S8192x128 .f32 → Arr F S8192x128 .f32),
    TRef.nullary (.of (T := ⟨S_, .f32⟩) main_call2_cst) (constant S_ .f32 0x00000000#32),
    TRef.unary (.of (T := ⟨S_, .f32⟩) main_call2_cst) (.of (T := ⟨S8192x128, .f32⟩) main_call2_v0) (broadcastInDim S8192x128 ![] bcast_S_S8192x128),
    TRef.binary (.of (T := ⟨S8192x128, .f32⟩) main_v14) (.of (T := ⟨S8192x128, .f32⟩) main_call2_v0) (.of (T := ⟨S8192x128, .f32⟩) main_v15) maximumf,
    binary main_v15 main_arg11 main_v16 ((fun l r => Host.dotGeneral dot_S8192x128_S128x64_S8192x64_1_0_0_1_n_n none l r) : Arr F S8192x128 .f32 → Arr F S128x64 .f32 → Arr F S8192x64 .f32),
    unary main_arg12 main_v17 (broadcastInDim S1x64 ![1] bcast_S64_S1x64_1 : Arr F S64 .f32 → Arr F S1x64 .f32),
    unary main_v17 main_v18 (broadcastInDim S8192x64 ![0, 1] bcast_S1x64_S8192x64_0_1 : Arr F S1x64 .f32 → Arr F S8192x64 .f32),
    binary main_v16 main_v18 main_v19 (addf : Arr F S8192x64 .f32 → Arr F S8192x64 .f32 → Arr F S8192x64 .f32) ]

/-- The buffers `encOps` writes, in order. -/
abbrev encOpsWrites : List (Ref sig .tc) :=
  [main_v0, main_v1, main_v2, main_v3, main_v4, main_call0_cst, main_call0_v0, main_v5, main_v6, main_v7, main_v8, main_v9, main_call1_cst, main_call1_v0, main_v10, main_v11, main_v12, main_v13, main_v14, main_call2_cst, main_call2_v0, main_v15, main_v16, main_v17, main_v18, main_v19]

/-- Operations of level 0's codebook and the squared distances to it. -/
abbrev distOps0 : List (HloOp τ sig (Elt F)) :=
  [ unary main_arg4 main_v20 ((extractStridedSlice S1x1024x64 ![0, 0, 0] · slices_S3x1024x64_S1x1024x64_0_0_0) : Arr F S3x1024x64 .f32 → Arr F S1x1024x64 .f32),
    reshape main_v20 main_v21 (rfl : (.f32 : EltTy) = .f32) shapeCasts_S1x1024x64_S1024x64,
    binary main_v19 main_v19 main_v22 (mulf : Arr F S8192x64 .f32 → Arr F S8192x64 .f32 → Arr F S8192x64 .f32),
    nullary main_cst (constant S_ .f32 0x00000000#32),
    binary main_v22 main_cst main_v23 ((fun x v => Host.reduceAdd x v reducesTo_S8192x64_S8192_d1 h_S_) : Arr F S8192x64 .f32 → Arr F S_ .f32 → Arr F S8192 .f32),
    unary main_v23 main_v24 (broadcastInDim S8192x1 ![0] bcast_S8192_S8192x1_0 : Arr F S8192 .f32 → Arr F S8192x1 .f32),
    unary main_v21 main_v25 ((transpose S64x1024 [1, 0] · transposes_S1024x64_S64x1024_1_0) : Arr F S1024x64 .f32 → Arr F S64x1024 .f32),
    binary main_v19 main_v25 main_v26 ((fun l r => Host.dotGeneral dot_S8192x64_S64x1024_S8192x1024_1_0_0_1_n_n none l r) : Arr F S8192x64 .f32 → Arr F S64x1024 .f32 → Arr F S8192x1024 .f32),
    nullary main_cst_0 (constant S_ .f32 0x40000000#32),
    unary main_cst_0 main_v27 (broadcastInDim S8192x1024 ![] bcast_S_S8192x1024 : Arr F S_ .f32 → Arr F S8192x1024 .f32),
    binary main_v27 main_v26 main_v28 (mulf : Arr F S8192x1024 .f32 → Arr F S8192x1024 .f32 → Arr F S8192x1024 .f32),
    unary main_v24 main_v29 (broadcastInDim S8192x1024 ![0, 1] bcast_S8192x1_S8192x1024_0_1 : Arr F S8192x1 .f32 → Arr F S8192x1024 .f32),
    binary main_v29 main_v28 main_v30 (subf : Arr F S8192x1024 .f32 → Arr F S8192x1024 .f32 → Arr F S8192x1024 .f32),
    binary main_v21 main_v21 main_v31 (mulf : Arr F S1024x64 .f32 → Arr F S1024x64 .f32 → Arr F S1024x64 .f32),
    nullary main_cst_1 (constant S_ .f32 0x00000000#32),
    binary main_v31 main_cst_1 main_v32 ((fun x v => Host.reduceAdd x v reducesTo_S1024x64_S1024_d1 h_S_) : Arr F S1024x64 .f32 → Arr F S_ .f32 → Arr F S1024 .f32),
    unary main_v32 main_v33 (broadcastInDim S1x1024 ![1] bcast_S1024_S1x1024_1 : Arr F S1024 .f32 → Arr F S1x1024 .f32),
    unary main_v33 main_v34 (broadcastInDim S8192x1024 ![0, 1] bcast_S1x1024_S8192x1024_0_1 : Arr F S1x1024 .f32 → Arr F S8192x1024 .f32),
    binary main_v30 main_v34 main_v35 (addf : Arr F S8192x1024 .f32 → Arr F S8192x1024 .f32 → Arr F S8192x1024 .f32) ]

/-- The buffers `distOps0` writes, in order. -/
abbrev distOps0Writes : List (Ref sig .tc) :=
  [main_v20, main_v21, main_v22, main_cst, main_v23, main_v24, main_v25, main_v26, main_cst_0, main_v27, main_v28, main_v29, main_v30, main_v31, main_cst_1, main_v32, main_v33, main_v34, main_v35]

/-- Operations of level 0's nearest codewords. -/
abbrev argOps0 : List (HloOp τ sig (Elt F)) :=
  [ TRef.nullary (.of (T := ⟨S8192x1024, .i32⟩) main_call3_v0) (iotaInDim S8192x1024 32 1),
    TRef.nullary (.of (T := ⟨S_, .f32⟩) main_call3_cst) (constant S_ .f32 0x7F800000#32),
    TRef.nullary (.of (T := ⟨S_, .i32⟩) main_call3_c) (constantI S_ 32 0#32),
    TRef.quaternary (.of (T := ⟨S8192x1024, .f32⟩) main_v35) (.of (T := ⟨S8192x1024, .i32⟩) main_call3_v0) (.of (T := ⟨S_, .f32⟩) main_call3_cst) (.of (T := ⟨S_, .i32⟩) main_call3_c) (.of (T := ⟨S8192, .f32⟩) main_call3_v1_0) (fun x y u v => (fun j => (Host.argReduce reducer_argmin_f32_i32 x y u v reducesTo_S8192x1024_S8192_d1 h_S_ j).1)),
    TRef.quaternary (.of (T := ⟨S8192x1024, .f32⟩) main_v35) (.of (T := ⟨S8192x1024, .i32⟩) main_call3_v0) (.of (T := ⟨S_, .f32⟩) main_call3_cst) (.of (T := ⟨S_, .i32⟩) main_call3_c) (.of (T := ⟨S8192, .i32⟩) main_v36) (fun x y u v => (fun j => (Host.argReduce reducer_argmin_f32_i32 x y u v reducesTo_S8192x1024_S8192_d1 h_S_ j).2)) ]

/-- The buffers `argOps0` writes, in order. -/
abbrev argOps0Writes : List (Ref sig .tc) :=
  [main_call3_v0, main_call3_cst, main_call3_c, main_call3_v1_0, main_v36]

/-- Operations of level 0's codewords taken, and the residual after it. -/
abbrev takeOps0 : List (HloOp τ sig (Elt F)) :=
  [ TRef.nullary (.of (T := ⟨S_, .i32⟩) main_call4_c) (constantI S_ 32 0#32),
    TRef.unary (.of (T := ⟨S_, .i32⟩) main_call4_c) (.of (T := ⟨S8192, .i32⟩) main_call4_v0) (broadcastInDim S8192 ![] bcast_S_S8192),
    TRef.binary (.of (T := ⟨S8192, .i32⟩) main_v36) (.of (T := ⟨S8192, .i32⟩) main_call4_v0) (.of (T := ⟨S8192, .i1⟩) main_call4_v1) (cmpi .slt),
    TRef.nullary (.of (T := ⟨S_, .i32⟩) main_call4_c_0) (constantI S_ 32 1024#32),
    TRef.unary (.of (T := ⟨S_, .i32⟩) main_call4_c_0) (.of (T := ⟨S8192, .i32⟩) main_call4_v2) (broadcastInDim S8192 ![] bcast_S_S8192),
    TRef.binary (.of (T := ⟨S8192, .i32⟩) main_v36) (.of (T := ⟨S8192, .i32⟩) main_call4_v2) (.of (T := ⟨S8192, .i32⟩) main_call4_v3) addi,
    TRef.ternary (.of (T := ⟨S8192, .i1⟩) main_call4_v1) (.of (T := ⟨S8192, .i32⟩) main_call4_v3) (.of (T := ⟨S8192, .i32⟩) main_v36) (.of (T := ⟨S8192, .i32⟩) main_call4_v4) select,
    TRef.unary (.of (T := ⟨S8192, .i32⟩) main_call4_v4) (.of (T := ⟨S8192x1, .i32⟩) main_call4_v5) (broadcastInDim S8192x1 ![0] bcast_S8192_S8192x1_0),
    TRef.nullary (.of (T := ⟨S1, .i32⟩) main_call4_c_1) (constantI S1 32 1023#32),
    TRef.nullary (.of (T := ⟨S_, .i32⟩) main_call4_c_2) (constantI S_ 32 0#32),
    TRef.unary (.of (T := ⟨S_, .i32⟩) main_call4_c_2) (.of (T := ⟨S8192x1, .i32⟩) main_call4_v6) (broadcastInDim S8192x1 ![] bcast_S_S8192x1),
    TRef.binary (.of (T := ⟨S8192x1, .i32⟩) main_call4_v5) (.of (T := ⟨S8192x1, .i32⟩) main_call4_v6) (.of (T := ⟨S8192x1, .i1⟩) main_call4_v7) (cmpi .sge),
    TRef.unary (.of (T := ⟨S1, .i32⟩) main_call4_c_1) (.of (T := ⟨S1x1, .i32⟩) main_call4_v8) (broadcastInDim S1x1 ![1] bcast_S1_S1x1_1),
    TRef.unary (.of (T := ⟨S1x1, .i32⟩) main_call4_v8) (.of (T := ⟨S8192x1, .i32⟩) main_call4_v9) (broadcastInDim S8192x1 ![0, 1] bcast_S1x1_S8192x1_0_1),
    TRef.binary (.of (T := ⟨S8192x1, .i32⟩) main_call4_v5) (.of (T := ⟨S8192x1, .i32⟩) main_call4_v9) (.of (T := ⟨S8192x1, .i1⟩) main_call4_v10) (cmpi .sle),
    TRef.binary (.of (T := ⟨S8192x1, .i1⟩) main_call4_v7) (.of (T := ⟨S8192x1, .i1⟩) main_call4_v10) (.of (T := ⟨S8192x1, .i1⟩) main_call4_v11) andi,
    TRef.nullary (.of (T := ⟨S_, .i1⟩) main_call4_c_3) (constantI S_ 1 1#1),
    TRef.binary (.of (T := ⟨S8192x1, .i1⟩) main_call4_v11) (.of (T := ⟨S_, .i1⟩) main_call4_c_3) (.of (T := ⟨S8192, .i1⟩) main_call4_v12) (fun x v => Host.reduce IntOp.andi x v reducesTo_S8192x1_S8192_d1 h_S_),
    TRef.binary (.of (T := ⟨S1024x64, .f32⟩) main_v21) (.of (T := ⟨S8192x1, .i32⟩) main_call4_v5) (.of (T := ⟨S8192x64, .f32⟩) main_call4_v13) (fun x i => Host.gather gather_S1024x64_S8192x1_S8192x64_1_0_n_n_0_1_164 x i),
    TRef.unary (.of (T := ⟨S8192, .i1⟩) main_call4_v12) (.of (T := ⟨S8192x64, .i1⟩) main_call4_v14) (broadcastInDim S8192x64 ![0] bcast_S8192_S8192x64_0),
    TRef.nullary (.of (T := ⟨S_, .f32⟩) main_call4_cst) (constant S_ .f32 0x7FC00000#32),
    TRef.unary (.of (T := ⟨S_, .f32⟩) main_call4_cst) (.of (T := ⟨S8192x64, .f32⟩) main_call4_v15) (broadcastInDim S8192x64 ![] bcast_S_S8192x64),
    TRef.ternary (.of (T := ⟨S8192x64, .i1⟩) main_call4_v14) (.of (T := ⟨S8192x64, .f32⟩) main_call4_v13) (.of (T := ⟨S8192x64, .f32⟩) main_call4_v15) (.of (T := ⟨S8192x64, .f32⟩) main_v37) select,
    binary main_v19 main_v37 main_v38 (subf : Arr F S8192x64 .f32 → Arr F S8192x64 .f32 → Arr F S8192x64 .f32) ]

/-- The buffers `takeOps0` writes, in order. -/
abbrev takeOps0Writes : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v37, main_v38]

/-- Operations of level 1's codebook and the distances to it, but for the last addition. -/
abbrev distOps1a : List (HloOp τ sig (Elt F)) :=
  [ unary main_arg4 main_v39 ((extractStridedSlice S1x1024x64 ![1, 0, 0] · slices_S3x1024x64_S1x1024x64_1_0_0) : Arr F S3x1024x64 .f32 → Arr F S1x1024x64 .f32),
    reshape main_v39 main_v40 (rfl : (.f32 : EltTy) = .f32) shapeCasts_S1x1024x64_S1024x64,
    binary main_v38 main_v38 main_v41 (mulf : Arr F S8192x64 .f32 → Arr F S8192x64 .f32 → Arr F S8192x64 .f32),
    nullary main_cst_2 (constant S_ .f32 0x00000000#32),
    binary main_v41 main_cst_2 main_v42 ((fun x v => Host.reduceAdd x v reducesTo_S8192x64_S8192_d1 h_S_) : Arr F S8192x64 .f32 → Arr F S_ .f32 → Arr F S8192 .f32),
    unary main_v42 main_v43 (broadcastInDim S8192x1 ![0] bcast_S8192_S8192x1_0 : Arr F S8192 .f32 → Arr F S8192x1 .f32),
    unary main_v40 main_v44 ((transpose S64x1024 [1, 0] · transposes_S1024x64_S64x1024_1_0) : Arr F S1024x64 .f32 → Arr F S64x1024 .f32),
    binary main_v38 main_v44 main_v45 ((fun l r => Host.dotGeneral dot_S8192x64_S64x1024_S8192x1024_1_0_0_1_n_n none l r) : Arr F S8192x64 .f32 → Arr F S64x1024 .f32 → Arr F S8192x1024 .f32),
    nullary main_cst_3 (constant S_ .f32 0x40000000#32),
    unary main_cst_3 main_v46 (broadcastInDim S8192x1024 ![] bcast_S_S8192x1024 : Arr F S_ .f32 → Arr F S8192x1024 .f32),
    binary main_v46 main_v45 main_v47 (mulf : Arr F S8192x1024 .f32 → Arr F S8192x1024 .f32 → Arr F S8192x1024 .f32),
    unary main_v43 main_v48 (broadcastInDim S8192x1024 ![0, 1] bcast_S8192x1_S8192x1024_0_1 : Arr F S8192x1 .f32 → Arr F S8192x1024 .f32),
    binary main_v48 main_v47 main_v49 (subf : Arr F S8192x1024 .f32 → Arr F S8192x1024 .f32 → Arr F S8192x1024 .f32),
    binary main_v40 main_v40 main_v50 (mulf : Arr F S1024x64 .f32 → Arr F S1024x64 .f32 → Arr F S1024x64 .f32),
    nullary main_cst_4 (constant S_ .f32 0x00000000#32),
    binary main_v50 main_cst_4 main_v51 ((fun x v => Host.reduceAdd x v reducesTo_S1024x64_S1024_d1 h_S_) : Arr F S1024x64 .f32 → Arr F S_ .f32 → Arr F S1024 .f32),
    unary main_v51 main_v52 (broadcastInDim S1x1024 ![1] bcast_S1024_S1x1024_1 : Arr F S1024 .f32 → Arr F S1x1024 .f32),
    unary main_v52 main_v53 (broadcastInDim S8192x1024 ![0, 1] bcast_S1x1024_S8192x1024_0_1 : Arr F S1x1024 .f32 → Arr F S8192x1024 .f32) ]

/-- The buffers `distOps1a` writes, in order. -/
abbrev distOps1aWrites : List (Ref sig .tc) :=
  [main_v39, main_v40, main_v41, main_cst_2, main_v42, main_v43, main_v44, main_v45, main_cst_3, main_v46, main_v47, main_v48, main_v49, main_v50, main_cst_4, main_v51, main_v52, main_v53]

/-- Operations of the last addition of level 1's distances. -/
abbrev distOps1b : List (HloOp τ sig (Elt F)) :=
  [ binary main_v49 main_v53 main_v54 (addf : Arr F S8192x1024 .f32 → Arr F S8192x1024 .f32 → Arr F S8192x1024 .f32) ]

/-- The buffers `distOps1b` writes, in order. -/
abbrev distOps1bWrites : List (Ref sig .tc) :=
  [main_v54]

/-- Operations of level 1's nearest codewords. -/
abbrev argOps1 : List (HloOp τ sig (Elt F)) :=
  [ TRef.nullary (.of (T := ⟨S8192x1024, .i32⟩) main_call5_v0) (iotaInDim S8192x1024 32 1),
    TRef.nullary (.of (T := ⟨S_, .f32⟩) main_call5_cst) (constant S_ .f32 0x7F800000#32),
    TRef.nullary (.of (T := ⟨S_, .i32⟩) main_call5_c) (constantI S_ 32 0#32),
    TRef.quaternary (.of (T := ⟨S8192x1024, .f32⟩) main_v54) (.of (T := ⟨S8192x1024, .i32⟩) main_call5_v0) (.of (T := ⟨S_, .f32⟩) main_call5_cst) (.of (T := ⟨S_, .i32⟩) main_call5_c) (.of (T := ⟨S8192, .f32⟩) main_call5_v1_0) (fun x y u v => (fun j => (Host.argReduce reducer_argmin_f32_i32 x y u v reducesTo_S8192x1024_S8192_d1 h_S_ j).1)),
    TRef.quaternary (.of (T := ⟨S8192x1024, .f32⟩) main_v54) (.of (T := ⟨S8192x1024, .i32⟩) main_call5_v0) (.of (T := ⟨S_, .f32⟩) main_call5_cst) (.of (T := ⟨S_, .i32⟩) main_call5_c) (.of (T := ⟨S8192, .i32⟩) main_v55) (fun x y u v => (fun j => (Host.argReduce reducer_argmin_f32_i32 x y u v reducesTo_S8192x1024_S8192_d1 h_S_ j).2)) ]

/-- The buffers `argOps1` writes, in order. -/
abbrev argOps1Writes : List (Ref sig .tc) :=
  [main_call5_v0, main_call5_cst, main_call5_c, main_call5_v1_0, main_v55]

/-- Operations of level 1's codewords taken, and the residual after it. -/
abbrev takeOps1 : List (HloOp τ sig (Elt F)) :=
  [ TRef.nullary (.of (T := ⟨S_, .i32⟩) main_call6_c) (constantI S_ 32 0#32),
    TRef.unary (.of (T := ⟨S_, .i32⟩) main_call6_c) (.of (T := ⟨S8192, .i32⟩) main_call6_v0) (broadcastInDim S8192 ![] bcast_S_S8192),
    TRef.binary (.of (T := ⟨S8192, .i32⟩) main_v55) (.of (T := ⟨S8192, .i32⟩) main_call6_v0) (.of (T := ⟨S8192, .i1⟩) main_call6_v1) (cmpi .slt),
    TRef.nullary (.of (T := ⟨S_, .i32⟩) main_call6_c_0) (constantI S_ 32 1024#32),
    TRef.unary (.of (T := ⟨S_, .i32⟩) main_call6_c_0) (.of (T := ⟨S8192, .i32⟩) main_call6_v2) (broadcastInDim S8192 ![] bcast_S_S8192),
    TRef.binary (.of (T := ⟨S8192, .i32⟩) main_v55) (.of (T := ⟨S8192, .i32⟩) main_call6_v2) (.of (T := ⟨S8192, .i32⟩) main_call6_v3) addi,
    TRef.ternary (.of (T := ⟨S8192, .i1⟩) main_call6_v1) (.of (T := ⟨S8192, .i32⟩) main_call6_v3) (.of (T := ⟨S8192, .i32⟩) main_v55) (.of (T := ⟨S8192, .i32⟩) main_call6_v4) select,
    TRef.unary (.of (T := ⟨S8192, .i32⟩) main_call6_v4) (.of (T := ⟨S8192x1, .i32⟩) main_call6_v5) (broadcastInDim S8192x1 ![0] bcast_S8192_S8192x1_0),
    TRef.nullary (.of (T := ⟨S1, .i32⟩) main_call6_c_1) (constantI S1 32 1023#32),
    TRef.nullary (.of (T := ⟨S_, .i32⟩) main_call6_c_2) (constantI S_ 32 0#32),
    TRef.unary (.of (T := ⟨S_, .i32⟩) main_call6_c_2) (.of (T := ⟨S8192x1, .i32⟩) main_call6_v6) (broadcastInDim S8192x1 ![] bcast_S_S8192x1),
    TRef.binary (.of (T := ⟨S8192x1, .i32⟩) main_call6_v5) (.of (T := ⟨S8192x1, .i32⟩) main_call6_v6) (.of (T := ⟨S8192x1, .i1⟩) main_call6_v7) (cmpi .sge),
    TRef.unary (.of (T := ⟨S1, .i32⟩) main_call6_c_1) (.of (T := ⟨S1x1, .i32⟩) main_call6_v8) (broadcastInDim S1x1 ![1] bcast_S1_S1x1_1),
    TRef.unary (.of (T := ⟨S1x1, .i32⟩) main_call6_v8) (.of (T := ⟨S8192x1, .i32⟩) main_call6_v9) (broadcastInDim S8192x1 ![0, 1] bcast_S1x1_S8192x1_0_1),
    TRef.binary (.of (T := ⟨S8192x1, .i32⟩) main_call6_v5) (.of (T := ⟨S8192x1, .i32⟩) main_call6_v9) (.of (T := ⟨S8192x1, .i1⟩) main_call6_v10) (cmpi .sle),
    TRef.binary (.of (T := ⟨S8192x1, .i1⟩) main_call6_v7) (.of (T := ⟨S8192x1, .i1⟩) main_call6_v10) (.of (T := ⟨S8192x1, .i1⟩) main_call6_v11) andi,
    TRef.nullary (.of (T := ⟨S_, .i1⟩) main_call6_c_3) (constantI S_ 1 1#1),
    TRef.binary (.of (T := ⟨S8192x1, .i1⟩) main_call6_v11) (.of (T := ⟨S_, .i1⟩) main_call6_c_3) (.of (T := ⟨S8192, .i1⟩) main_call6_v12) (fun x v => Host.reduce IntOp.andi x v reducesTo_S8192x1_S8192_d1 h_S_),
    TRef.binary (.of (T := ⟨S1024x64, .f32⟩) main_v40) (.of (T := ⟨S8192x1, .i32⟩) main_call6_v5) (.of (T := ⟨S8192x64, .f32⟩) main_call6_v13) (fun x i => Host.gather gather_S1024x64_S8192x1_S8192x64_1_0_n_n_0_1_164 x i),
    TRef.unary (.of (T := ⟨S8192, .i1⟩) main_call6_v12) (.of (T := ⟨S8192x64, .i1⟩) main_call6_v14) (broadcastInDim S8192x64 ![0] bcast_S8192_S8192x64_0),
    TRef.nullary (.of (T := ⟨S_, .f32⟩) main_call6_cst) (constant S_ .f32 0x7FC00000#32),
    TRef.unary (.of (T := ⟨S_, .f32⟩) main_call6_cst) (.of (T := ⟨S8192x64, .f32⟩) main_call6_v15) (broadcastInDim S8192x64 ![] bcast_S_S8192x64),
    TRef.ternary (.of (T := ⟨S8192x64, .i1⟩) main_call6_v14) (.of (T := ⟨S8192x64, .f32⟩) main_call6_v13) (.of (T := ⟨S8192x64, .f32⟩) main_call6_v15) (.of (T := ⟨S8192x64, .f32⟩) main_v56) select,
    binary main_v38 main_v56 main_v57 (subf : Arr F S8192x64 .f32 → Arr F S8192x64 .f32 → Arr F S8192x64 .f32) ]

/-- The buffers `takeOps1` writes, in order. -/
abbrev takeOps1Writes : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v56, main_v57]

/-- Operations of level 2's codebook and the squared distances to it. -/
abbrev distOps2 : List (HloOp τ sig (Elt F)) :=
  [ unary main_arg4 main_v58 ((extractStridedSlice S1x1024x64 ![2, 0, 0] · slices_S3x1024x64_S1x1024x64_2_0_0) : Arr F S3x1024x64 .f32 → Arr F S1x1024x64 .f32),
    reshape main_v58 main_v59 (rfl : (.f32 : EltTy) = .f32) shapeCasts_S1x1024x64_S1024x64,
    binary main_v57 main_v57 main_v60 (mulf : Arr F S8192x64 .f32 → Arr F S8192x64 .f32 → Arr F S8192x64 .f32),
    nullary main_cst_5 (constant S_ .f32 0x00000000#32),
    binary main_v60 main_cst_5 main_v61 ((fun x v => Host.reduceAdd x v reducesTo_S8192x64_S8192_d1 h_S_) : Arr F S8192x64 .f32 → Arr F S_ .f32 → Arr F S8192 .f32),
    unary main_v61 main_v62 (broadcastInDim S8192x1 ![0] bcast_S8192_S8192x1_0 : Arr F S8192 .f32 → Arr F S8192x1 .f32),
    unary main_v59 main_v63 ((transpose S64x1024 [1, 0] · transposes_S1024x64_S64x1024_1_0) : Arr F S1024x64 .f32 → Arr F S64x1024 .f32),
    binary main_v57 main_v63 main_v64 ((fun l r => Host.dotGeneral dot_S8192x64_S64x1024_S8192x1024_1_0_0_1_n_n none l r) : Arr F S8192x64 .f32 → Arr F S64x1024 .f32 → Arr F S8192x1024 .f32),
    nullary main_cst_6 (constant S_ .f32 0x40000000#32),
    unary main_cst_6 main_v65 (broadcastInDim S8192x1024 ![] bcast_S_S8192x1024 : Arr F S_ .f32 → Arr F S8192x1024 .f32),
    binary main_v65 main_v64 main_v66 (mulf : Arr F S8192x1024 .f32 → Arr F S8192x1024 .f32 → Arr F S8192x1024 .f32),
    unary main_v62 main_v67 (broadcastInDim S8192x1024 ![0, 1] bcast_S8192x1_S8192x1024_0_1 : Arr F S8192x1 .f32 → Arr F S8192x1024 .f32),
    binary main_v67 main_v66 main_v68 (subf : Arr F S8192x1024 .f32 → Arr F S8192x1024 .f32 → Arr F S8192x1024 .f32),
    binary main_v59 main_v59 main_v69 (mulf : Arr F S1024x64 .f32 → Arr F S1024x64 .f32 → Arr F S1024x64 .f32),
    nullary main_cst_7 (constant S_ .f32 0x00000000#32),
    binary main_v69 main_cst_7 main_v70 ((fun x v => Host.reduceAdd x v reducesTo_S1024x64_S1024_d1 h_S_) : Arr F S1024x64 .f32 → Arr F S_ .f32 → Arr F S1024 .f32),
    unary main_v70 main_v71 (broadcastInDim S1x1024 ![1] bcast_S1024_S1x1024_1 : Arr F S1024 .f32 → Arr F S1x1024 .f32),
    unary main_v71 main_v72 (broadcastInDim S8192x1024 ![0, 1] bcast_S1x1024_S8192x1024_0_1 : Arr F S1x1024 .f32 → Arr F S8192x1024 .f32),
    binary main_v68 main_v72 main_v73 (addf : Arr F S8192x1024 .f32 → Arr F S8192x1024 .f32 → Arr F S8192x1024 .f32) ]

/-- The buffers `distOps2` writes, in order. -/
abbrev distOps2Writes : List (Ref sig .tc) :=
  [main_v58, main_v59, main_v60, main_cst_5, main_v61, main_v62, main_v63, main_v64, main_cst_6, main_v65, main_v66, main_v67, main_v68, main_v69, main_cst_7, main_v70, main_v71, main_v72, main_v73]

/-- Operations of level 2's nearest codewords. -/
abbrev argOps2 : List (HloOp τ sig (Elt F)) :=
  [ TRef.nullary (.of (T := ⟨S8192x1024, .i32⟩) main_call7_v0) (iotaInDim S8192x1024 32 1),
    TRef.nullary (.of (T := ⟨S_, .f32⟩) main_call7_cst) (constant S_ .f32 0x7F800000#32),
    TRef.nullary (.of (T := ⟨S_, .i32⟩) main_call7_c) (constantI S_ 32 0#32),
    TRef.quaternary (.of (T := ⟨S8192x1024, .f32⟩) main_v73) (.of (T := ⟨S8192x1024, .i32⟩) main_call7_v0) (.of (T := ⟨S_, .f32⟩) main_call7_cst) (.of (T := ⟨S_, .i32⟩) main_call7_c) (.of (T := ⟨S8192, .f32⟩) main_call7_v1_0) (fun x y u v => (fun j => (Host.argReduce reducer_argmin_f32_i32 x y u v reducesTo_S8192x1024_S8192_d1 h_S_ j).1)),
    TRef.quaternary (.of (T := ⟨S8192x1024, .f32⟩) main_v73) (.of (T := ⟨S8192x1024, .i32⟩) main_call7_v0) (.of (T := ⟨S_, .f32⟩) main_call7_cst) (.of (T := ⟨S_, .i32⟩) main_call7_c) (.of (T := ⟨S8192, .i32⟩) main_v74) (fun x y u v => (fun j => (Host.argReduce reducer_argmin_f32_i32 x y u v reducesTo_S8192x1024_S8192_d1 h_S_ j).2)) ]

/-- The buffers `argOps2` writes, in order. -/
abbrev argOps2Writes : List (Ref sig .tc) :=
  [main_call7_v0, main_call7_cst, main_call7_c, main_call7_v1_0, main_v74]

/-- Operations of level 2's codewords taken, which no result reads. -/
abbrev takeOps2 : List (HloOp τ sig (Elt F)) :=
  [ TRef.nullary (.of (T := ⟨S_, .i32⟩) main_call8_c) (constantI S_ 32 0#32),
    TRef.unary (.of (T := ⟨S_, .i32⟩) main_call8_c) (.of (T := ⟨S8192, .i32⟩) main_call8_v0) (broadcastInDim S8192 ![] bcast_S_S8192),
    TRef.binary (.of (T := ⟨S8192, .i32⟩) main_v74) (.of (T := ⟨S8192, .i32⟩) main_call8_v0) (.of (T := ⟨S8192, .i1⟩) main_call8_v1) (cmpi .slt),
    TRef.nullary (.of (T := ⟨S_, .i32⟩) main_call8_c_0) (constantI S_ 32 1024#32),
    TRef.unary (.of (T := ⟨S_, .i32⟩) main_call8_c_0) (.of (T := ⟨S8192, .i32⟩) main_call8_v2) (broadcastInDim S8192 ![] bcast_S_S8192),
    TRef.binary (.of (T := ⟨S8192, .i32⟩) main_v74) (.of (T := ⟨S8192, .i32⟩) main_call8_v2) (.of (T := ⟨S8192, .i32⟩) main_call8_v3) addi,
    TRef.ternary (.of (T := ⟨S8192, .i1⟩) main_call8_v1) (.of (T := ⟨S8192, .i32⟩) main_call8_v3) (.of (T := ⟨S8192, .i32⟩) main_v74) (.of (T := ⟨S8192, .i32⟩) main_call8_v4) select,
    TRef.unary (.of (T := ⟨S8192, .i32⟩) main_call8_v4) (.of (T := ⟨S8192x1, .i32⟩) main_call8_v5) (broadcastInDim S8192x1 ![0] bcast_S8192_S8192x1_0),
    TRef.nullary (.of (T := ⟨S1, .i32⟩) main_call8_c_1) (constantI S1 32 1023#32),
    TRef.nullary (.of (T := ⟨S_, .i32⟩) main_call8_c_2) (constantI S_ 32 0#32),
    TRef.unary (.of (T := ⟨S_, .i32⟩) main_call8_c_2) (.of (T := ⟨S8192x1, .i32⟩) main_call8_v6) (broadcastInDim S8192x1 ![] bcast_S_S8192x1),
    TRef.binary (.of (T := ⟨S8192x1, .i32⟩) main_call8_v5) (.of (T := ⟨S8192x1, .i32⟩) main_call8_v6) (.of (T := ⟨S8192x1, .i1⟩) main_call8_v7) (cmpi .sge),
    TRef.unary (.of (T := ⟨S1, .i32⟩) main_call8_c_1) (.of (T := ⟨S1x1, .i32⟩) main_call8_v8) (broadcastInDim S1x1 ![1] bcast_S1_S1x1_1),
    TRef.unary (.of (T := ⟨S1x1, .i32⟩) main_call8_v8) (.of (T := ⟨S8192x1, .i32⟩) main_call8_v9) (broadcastInDim S8192x1 ![0, 1] bcast_S1x1_S8192x1_0_1),
    TRef.binary (.of (T := ⟨S8192x1, .i32⟩) main_call8_v5) (.of (T := ⟨S8192x1, .i32⟩) main_call8_v9) (.of (T := ⟨S8192x1, .i1⟩) main_call8_v10) (cmpi .sle),
    TRef.binary (.of (T := ⟨S8192x1, .i1⟩) main_call8_v7) (.of (T := ⟨S8192x1, .i1⟩) main_call8_v10) (.of (T := ⟨S8192x1, .i1⟩) main_call8_v11) andi,
    TRef.nullary (.of (T := ⟨S_, .i1⟩) main_call8_c_3) (constantI S_ 1 1#1),
    TRef.binary (.of (T := ⟨S8192x1, .i1⟩) main_call8_v11) (.of (T := ⟨S_, .i1⟩) main_call8_c_3) (.of (T := ⟨S8192, .i1⟩) main_call8_v12) (fun x v => Host.reduce IntOp.andi x v reducesTo_S8192x1_S8192_d1 h_S_),
    TRef.binary (.of (T := ⟨S1024x64, .f32⟩) main_v59) (.of (T := ⟨S8192x1, .i32⟩) main_call8_v5) (.of (T := ⟨S8192x64, .f32⟩) main_call8_v13) (fun x i => Host.gather gather_S1024x64_S8192x1_S8192x64_1_0_n_n_0_1_164 x i),
    TRef.unary (.of (T := ⟨S8192, .i1⟩) main_call8_v12) (.of (T := ⟨S8192x64, .i1⟩) main_call8_v14) (broadcastInDim S8192x64 ![0] bcast_S8192_S8192x64_0),
    TRef.nullary (.of (T := ⟨S_, .f32⟩) main_call8_cst) (constant S_ .f32 0x7FC00000#32),
    TRef.unary (.of (T := ⟨S_, .f32⟩) main_call8_cst) (.of (T := ⟨S8192x64, .f32⟩) main_call8_v15) (broadcastInDim S8192x64 ![] bcast_S_S8192x64),
    TRef.ternary (.of (T := ⟨S8192x64, .i1⟩) main_call8_v14) (.of (T := ⟨S8192x64, .f32⟩) main_call8_v13) (.of (T := ⟨S8192x64, .f32⟩) main_call8_v15) (.of (T := ⟨S8192x64, .f32⟩) main_v75) select,
    binary main_v57 main_v75 main_v76 (subf : Arr F S8192x64 .f32 → Arr F S8192x64 .f32 → Arr F S8192x64 .f32) ]

/-- The buffers `takeOps2` writes, in order. -/
abbrev takeOps2Writes : List (Ref sig .tc) :=
  [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v75, main_v76]

/-- Operations of the three columns of codes side by side and reshaped, and the mask repeated. -/
abbrev outOps : List (HloOp τ sig (Elt F)) :=
  [ unary main_v36 main_v77 (broadcastInDim S8192x1 ![0] bcast_S8192_S8192x1_0 : Arr F S8192 .i32 → Arr F S8192x1 .i32),
    unary main_v55 main_v78 (broadcastInDim S8192x1 ![0] bcast_S8192_S8192x1_0 : Arr F S8192 .i32 → Arr F S8192x1 .i32),
    unary main_v74 main_v79 (broadcastInDim S8192x1 ![0] bcast_S8192_S8192x1_0 : Arr F S8192 .i32 → Arr F S8192x1 .i32),
    nary ![main_v77, main_v78, main_v79] main_v80 (fun u => columns (F := F) (u 0) (u 1) (u 2)),
    reshape main_v80 main_v81 (rfl : (.i32 : EltTy) = .i32) shapeCasts_S8192x3_S64x384,
    unary main_arg3 main_v82 (broadcastInDim S64x128x3 ![0, 1] bcast_S64x128_S64x128x3_0_1 : Arr F S64x128 .i1 → Arr F S64x128x3 .i1),
    reshape main_v82 main_v83 (rfl : (.i1 : EltTy) = .i1) shapeCasts_S64x128x3_S64x384 ]

/-- The buffers `outOps` writes, in order. -/
abbrev outOpsWrites : List (Ref sig .tc) :=
  [main_v77, main_v78, main_v79, main_v80, main_v81, main_v82, main_v83]

/-! ## The program is the lists in order -/

/-- The operations of the program's first part. -/
def part0Ops : List (HloOp τ sig (Elt F)) := encOps ++ (distOps0 ++ (argOps0 ++ (takeOps0 ++ (distOps1a))))

/-- The operations of the program's second part. -/
def part1Ops : List (HloOp τ sig (Elt F)) := distOps1b ++ (argOps1 ++ (takeOps1 ++ (distOps2 ++ (argOps2 ++ (takeOps2 ++ (outOps))))))

/-- All the operations, in order. -/
abbrev allOps : List (HloOp τ sig (Elt F)) := part0Ops ++ part1Ops

set_option maxHeartbeats 2000000 in
theorem part0_eq (c : Dev nD) : main_part0 (F := F) c = seq part0Ops := rfl

set_option maxHeartbeats 2000000 in
theorem part1_eq (c : Dev nD) : main_part1 (F := F) c = seq part1Ops := rfl

/-- The program runs the operations in order. -/
theorem main_eq (c : Dev nD) : main (F := F) c = seq allOps := by
  simp only [allOps, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What the operations touch -/

/-- The operations name no buffer but the program's own, and determine all they write. -/
def Plain (ops : List (HloOp τ sig (Elt F))) : Prop :=
  (ops.Forall fun op => op.bufs ⊆ tcRefs τ sig) ∧ ops.Forall fun op => op.fresh = ∅

theorem Plain.append {a b : List (HloOp τ sig (Elt F))} (ha : Plain a) (hb : Plain b) : Plain (a ++ b) :=
  ⟨List.forall_append.mpr ⟨ha.1, hb.1⟩, List.forall_append.mpr ⟨ha.2, hb.2⟩⟩

theorem encOps_plain : Plain (F := F) encOps :=
  ⟨⟨reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩, forall_fresh_of_map rfl⟩

theorem distOps0_plain : Plain (F := F) distOps0 :=
  ⟨⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩, forall_fresh_of_map rfl⟩

theorem argOps0_plain : Plain (F := F) argOps0 :=
  ⟨⟨nullary_bufs_sub .., nullary_bufs_sub .., nullary_bufs_sub .., quaternary_bufs_sub .., quaternary_bufs_sub ..⟩, forall_fresh_of_map rfl⟩

theorem takeOps0_plain : Plain (F := F) takeOps0 :=
  ⟨⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩, forall_fresh_of_map rfl⟩

theorem distOps1a_plain : Plain (F := F) distOps1a :=
  ⟨⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub ..⟩, forall_fresh_of_map rfl⟩

theorem distOps1b_plain : Plain (F := F) distOps1b :=
  ⟨binary_bufs_sub .., forall_fresh_of_map rfl⟩

theorem argOps1_plain : Plain (F := F) argOps1 :=
  ⟨⟨nullary_bufs_sub .., nullary_bufs_sub .., nullary_bufs_sub .., quaternary_bufs_sub .., quaternary_bufs_sub ..⟩, forall_fresh_of_map rfl⟩

theorem takeOps1_plain : Plain (F := F) takeOps1 :=
  ⟨⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩, forall_fresh_of_map rfl⟩

theorem distOps2_plain : Plain (F := F) distOps2 :=
  ⟨⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩, forall_fresh_of_map rfl⟩

theorem argOps2_plain : Plain (F := F) argOps2 :=
  ⟨⟨nullary_bufs_sub .., nullary_bufs_sub .., nullary_bufs_sub .., quaternary_bufs_sub .., quaternary_bufs_sub ..⟩, forall_fresh_of_map rfl⟩

theorem takeOps2_plain : Plain (F := F) takeOps2 :=
  ⟨⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩, forall_fresh_of_map rfl⟩

theorem outOps_plain : Plain (F := F) outOps :=
  ⟨⟨unary_bufs_sub .., unary_bufs_sub .., unary_bufs_sub .., nary_bufs_sub .., reshape_bufs_sub .., unary_bufs_sub .., reshape_bufs_sub ..⟩, forall_fresh_of_map rfl⟩

theorem allOps_plain : Plain (F := F) allOps :=
  Plain.append ((encOps_plain).append ((distOps0_plain).append ((argOps0_plain).append ((takeOps0_plain).append (distOps1a_plain)))))
    ((distOps1b_plain).append ((argOps1_plain).append ((takeOps1_plain).append ((distOps2_plain).append ((argOps2_plain).append ((takeOps2_plain).append (outOps_plain)))))))

/-! ## What the operations leave alone -/

/-- A buffer `encOps` does not write keeps its contents. -/
theorem encOps_keep (V : Valuation τ sig (Elt F)) (r : Ref sig .tc) (h : r ∉ encOpsWrites) :
    after encOps V (no_index (Proc.devRef .tc r)) = V (Proc.devRef .tc r) :=
  after_of_writes_sub encOps V (forall_writes_sub_of_map rfl) h

/-- A buffer `distOps0` does not write keeps its contents. -/
theorem distOps0_keep (V : Valuation τ sig (Elt F)) (r : Ref sig .tc) (h : r ∉ distOps0Writes) :
    after distOps0 V (no_index (Proc.devRef .tc r)) = V (Proc.devRef .tc r) :=
  after_of_writes_sub distOps0 V (forall_writes_sub_of_map rfl) h

/-- A buffer `argOps0` does not write keeps its contents. -/
theorem argOps0_keep (V : Valuation τ sig (Elt F)) (r : Ref sig .tc) (h : r ∉ argOps0Writes) :
    after argOps0 V (no_index (Proc.devRef .tc r)) = V (Proc.devRef .tc r) :=
  after_of_writes_sub argOps0 V (forall_writes_sub_of_map rfl) h

/-- A buffer `takeOps0` does not write keeps its contents. -/
theorem takeOps0_keep (V : Valuation τ sig (Elt F)) (r : Ref sig .tc) (h : r ∉ takeOps0Writes) :
    after takeOps0 V (no_index (Proc.devRef .tc r)) = V (Proc.devRef .tc r) :=
  after_of_writes_sub takeOps0 V (forall_writes_sub_of_map rfl) h

/-- A buffer `distOps1a` does not write keeps its contents. -/
theorem distOps1a_keep (V : Valuation τ sig (Elt F)) (r : Ref sig .tc) (h : r ∉ distOps1aWrites) :
    after distOps1a V (no_index (Proc.devRef .tc r)) = V (Proc.devRef .tc r) :=
  after_of_writes_sub distOps1a V (forall_writes_sub_of_map rfl) h

/-- A buffer `distOps1b` does not write keeps its contents. -/
theorem distOps1b_keep (V : Valuation τ sig (Elt F)) (r : Ref sig .tc) (h : r ∉ distOps1bWrites) :
    after distOps1b V (no_index (Proc.devRef .tc r)) = V (Proc.devRef .tc r) :=
  after_of_writes_sub distOps1b V (forall_writes_sub_of_map rfl) h

/-- A buffer `argOps1` does not write keeps its contents. -/
theorem argOps1_keep (V : Valuation τ sig (Elt F)) (r : Ref sig .tc) (h : r ∉ argOps1Writes) :
    after argOps1 V (no_index (Proc.devRef .tc r)) = V (Proc.devRef .tc r) :=
  after_of_writes_sub argOps1 V (forall_writes_sub_of_map rfl) h

/-- A buffer `takeOps1` does not write keeps its contents. -/
theorem takeOps1_keep (V : Valuation τ sig (Elt F)) (r : Ref sig .tc) (h : r ∉ takeOps1Writes) :
    after takeOps1 V (no_index (Proc.devRef .tc r)) = V (Proc.devRef .tc r) :=
  after_of_writes_sub takeOps1 V (forall_writes_sub_of_map rfl) h

/-- A buffer `distOps2` does not write keeps its contents. -/
theorem distOps2_keep (V : Valuation τ sig (Elt F)) (r : Ref sig .tc) (h : r ∉ distOps2Writes) :
    after distOps2 V (no_index (Proc.devRef .tc r)) = V (Proc.devRef .tc r) :=
  after_of_writes_sub distOps2 V (forall_writes_sub_of_map rfl) h

/-- A buffer `argOps2` does not write keeps its contents. -/
theorem argOps2_keep (V : Valuation τ sig (Elt F)) (r : Ref sig .tc) (h : r ∉ argOps2Writes) :
    after argOps2 V (no_index (Proc.devRef .tc r)) = V (Proc.devRef .tc r) :=
  after_of_writes_sub argOps2 V (forall_writes_sub_of_map rfl) h

/-- A buffer `takeOps2` does not write keeps its contents. -/
theorem takeOps2_keep (V : Valuation τ sig (Elt F)) (r : Ref sig .tc) (h : r ∉ takeOps2Writes) :
    after takeOps2 V (no_index (Proc.devRef .tc r)) = V (Proc.devRef .tc r) :=
  after_of_writes_sub takeOps2 V (forall_writes_sub_of_map rfl) h

/-- A buffer `outOps` does not write keeps its contents. -/
theorem outOps_keep (V : Valuation τ sig (Elt F)) (r : Ref sig .tc) (h : r ∉ outOpsWrites) :
    after outOps V (no_index (Proc.devRef .tc r)) = V (Proc.devRef .tc r) :=
  after_of_writes_sub outOps V (forall_writes_sub_of_map rfl) h

end Cert.ReferenceIdeal.Host

end
-- ==== Proof.RefRun.lean ====
/- What the reference's run leaves: the encoder, the distances, the nearest codewords and the residuals as functions of
   whole arrays, and the reference's results as those functions of its arguments. -/
module

public import proofs.«01_k».proof.Proof.RefOps
public import Idealize.ShloMosaic.Lib.Quiescent

@[expose] public section

set_option maxRecDepth 16384
set_option Elab.async false

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of whole arrays -/

/-- The encoder: the tokens flattened to rows, then three dense layers with relu and a fourth without. -/
def encA (x : Arr F S64x128x768 .f32) (W0 : Arr F S768x512 .f32) (b0 : Arr F S512 .f32) (W1 : Arr F S512x256 .f32) (b1 : Arr F S256 .f32)
    (W2 : Arr F S256x128 .f32) (b2 : Arr F S128 .f32) (W3 : Arr F S128x64 .f32) (b3 : Arr F S64 .f32) : Arr F S8192x64 .f32 :=
  let h0 : Arr F S8192x768 .f32 := shapeCast S8192x768 x shapeCasts_S64x128x768_S8192x768
  let h1 : Arr F S8192x512 .f32 := maximumf
    (addf (Host.dotGeneral dot_S8192x768_S768x512_S8192x512_1_0_0_1_n_n none h0 W0)
      (broadcastInDim S8192x512 ![0, 1] bcast_S1x512_S8192x512_0_1 (broadcastInDim S1x512 ![1] bcast_S512_S1x512_1 b0)))
    (broadcastInDim S8192x512 ![] bcast_S_S8192x512 (constant S_ .f32 0x00000000#32))
  let h2 : Arr F S8192x256 .f32 := maximumf
    (addf (Host.dotGeneral dot_S8192x512_S512x256_S8192x256_1_0_0_1_n_n none h1 W1)
      (broadcastInDim S8192x256 ![0, 1] bcast_S1x256_S8192x256_0_1 (broadcastInDim S1x256 ![1] bcast_S256_S1x256_1 b1)))
    (broadcastInDim S8192x256 ![] bcast_S_S8192x256 (constant S_ .f32 0x00000000#32))
  let h3 : Arr F S8192x128 .f32 := maximumf
    (addf (Host.dotGeneral dot_S8192x256_S256x128_S8192x128_1_0_0_1_n_n none h2 W2)
      (broadcastInDim S8192x128 ![0, 1] bcast_S1x128_S8192x128_0_1 (broadcastInDim S1x128 ![1] bcast_S128_S1x128_1 b2)))
    (broadcastInDim S8192x128 ![] bcast_S_S8192x128 (constant S_ .f32 0x00000000#32))
  addf (Host.dotGeneral dot_S8192x128_S128x64_S8192x64_1_0_0_1_n_n none h3 W3)
    (broadcastInDim S8192x64 ![0, 1] bcast_S1x64_S8192x64_0_1 (broadcastInDim S1x64 ![1] bcast_S64_S1x64_1 b3))

/-- One level's codebook out of the three stacked ones. -/
def bookA (o : Fin 3 → ℕ) (h : S3x1024x64.Slices o S1x1024x64) (cbs : Arr F S3x1024x64 .f32) : Arr F S1024x64 .f32 :=
  shapeCast S1024x64 (extractStridedSlice S1x1024x64 o cbs h) shapeCasts_S1x1024x64_S1024x64

/-- The squared norms of the rows, less twice their products with the codewords. -/
def crossA (r : Arr F S8192x64 .f32) (cb : Arr F S1024x64 .f32) : Arr F S8192x1024 .f32 :=
  subf (broadcastInDim S8192x1024 ![0, 1] bcast_S8192x1_S8192x1024_0_1 (broadcastInDim S8192x1 ![0] bcast_S8192_S8192x1_0
      (Host.reduceAdd (mulf r r) (constant S_ .f32 0x00000000#32) reducesTo_S8192x64_S8192_d1 h_S_)))
    (mulf (broadcastInDim S8192x1024 ![] bcast_S_S8192x1024 (constant S_ .f32 0x40000000#32))
      (Host.dotGeneral dot_S8192x64_S64x1024_S8192x1024_1_0_0_1_n_n none r (transpose S64x1024 [1, 0] cb transposes_S1024x64_S64x1024_1_0)))

/-- The squared norms of the codewords, one row of them for every row of the residual. -/
def normsA (cb : Arr F S1024x64 .f32) : Arr F S8192x1024 .f32 :=
  broadcastInDim S8192x1024 ![0, 1] bcast_S1x1024_S8192x1024_0_1 (broadcastInDim S1x1024 ![1] bcast_S1024_S1x1024_1
    (Host.reduceAdd (mulf cb cb) (constant S_ .f32 0x00000000#32) reducesTo_S1024x64_S1024_d1 h_S_))

/-- The squared distances from every row to every codeword. -/
def distA (r : Arr F S8192x64 .f32) (cb : Arr F S1024x64 .f32) : Arr F S8192x1024 .f32 := addf (crossA r cb) (normsA cb)

/-- For every row, its least distance and that distance's position. -/
def leastA (d : Arr F S8192x1024 .f32) : S8192.Idx → F .f32 × BitVec 32 :=
  Host.argReduce reducer_argmin_f32_i32 d (iotaInDim S8192x1024 32 1) (constant S_ .f32 0x7F800000#32) (constantI S_ 32 0#32)
    reducesTo_S8192x1024_S8192_d1 h_S_

/-- The second halves of an array of pairs. -/
def secondA (f : S8192.Idx → F .f32 × BitVec 32) : Arr F S8192 .i32 := fun j => (f j).2

/-- For every row, the position of its least distance. -/
def pickA (d : Arr F S8192x1024 .f32) : Arr F S8192 .i32 := secondA (leastA d)

/-- The positions as a gather takes them: a negative one counted from the end, as a column. -/
def wrapA (i : Arr F S8192 .i32) : Arr F S8192x1 .i32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)

/-- Whether a position lies in the codebook. -/
def inBookA (i : Arr F S8192x1 .i32) : Arr F S8192 .i1 :=
  Host.reduce IntOp.andi (andi (cmpi .sge i (broadcastInDim S8192x1 ![] bcast_S_S8192x1 (constantI S_ 32 0#32)))
      (cmpi .sle i (broadcastInDim S8192x1 ![0, 1] bcast_S1x1_S8192x1_0_1 (broadcastInDim S1x1 ![1] bcast_S1_S1x1_1 (constantI S1 32 1023#32)))))
    (constantI S_ 1 1#1) reducesTo_S8192x1_S8192_d1 h_S_

/-- The codewords at the positions, a position outside the codebook giving a row of NaN. -/
def takeA (cb : Arr F S1024x64 .f32) (i : Arr F S8192 .i32) : Arr F S8192x64 .f32 :=
  select (broadcastInDim S8192x64 ![0] bcast_S8192_S8192x64_0 (inBookA (F := F) (wrapA (F := F) i)))
    (Host.gather gather_S1024x64_S8192x1_S8192x64_1_0_n_n_0_1_164 cb (wrapA (F := F) i))
    (broadcastInDim S8192x64 ![] bcast_S_S8192x64 (constant S_ .f32 0x7FC00000#32))

/-- The residual after a level: the row less the codeword its nearest position names. -/
def nextA (r : Arr F S8192x64 .f32) (cb : Arr F S1024x64 .f32) : Arr F S8192x64 .f32 := subf r (takeA cb (pickA (distA r cb)))

/-- The codes of all three levels: the columns side by side, then one row per sequence. -/
def codesA (a b c : Arr F S8192 .i32) : Arr F S64x384 .i32 :=
  shapeCast S64x384 (columns (F := F) (broadcastInDim S8192x1 ![0] bcast_S8192_S8192x1_0 a) (broadcastInDim S8192x1 ![0] bcast_S8192_S8192x1_0 b)
    (broadcastInDim S8192x1 ![0] bcast_S8192_S8192x1_0 c)) shapeCasts_S8192x3_S64x384

/-- The mask, every entry three times. -/
def maskA (k : Arr F S64x128 .i1) : Arr F S64x384 .i1 :=
  shapeCast S64x384 (broadcastInDim S64x128x3 ![0, 1] bcast_S64x128_S64x128x3_0_1 k) shapeCasts_S64x128x3_S64x384

/-! ## What each list of operations leaves -/

theorem encOps_v19 (V : Valuation τ sig (Elt F)) :
    after encOps V (no_index (Proc.devRef .tc main_v19)) = encA (V (Proc.devRef .tc main_arg0)) (V (Proc.devRef .tc main_arg5))
      (V (Proc.devRef .tc main_arg6)) (V (Proc.devRef .tc main_arg7)) (V (Proc.devRef .tc main_arg8)) (V (Proc.devRef .tc main_arg9))
      (V (Proc.devRef .tc main_arg10)) (V (Proc.devRef .tc main_arg11)) (V (Proc.devRef .tc main_arg12)) := by
  simp only [encOps, TRef.binary, TRef.nullary, TRef.ternary, TRef.unary, TRef.toBuf, TRef.ofBuf, cast_eq]
  after_results_simp <;> rfl

theorem distOps0_v21 (V : Valuation τ sig (Elt F)) :
    after distOps0 V (no_index (Proc.devRef .tc main_v21)) = bookA ![0, 0, 0] slices_S3x1024x64_S1x1024x64_0_0_0 (V (Proc.devRef .tc main_arg4)) := by
  after_results_simp <;> rfl

theorem distOps0_v35 (V : Valuation τ sig (Elt F)) :
    after distOps0 V (no_index (Proc.devRef .tc main_v35)) = distA (V (Proc.devRef .tc main_v19))
      (bookA ![0, 0, 0] slices_S3x1024x64_S1x1024x64_0_0_0 (V (Proc.devRef .tc main_arg4))) := by
  after_results_simp <;> rfl

theorem argOps0_v36 (V : Valuation τ sig (Elt F)) :
    after argOps0 V (no_index (Proc.devRef .tc main_v36)) = pickA (V (Proc.devRef .tc main_v35)) := by
  simp only [argOps0, TRef.quaternary, TRef.nullary, TRef.toBuf, TRef.ofBuf, cast_eq]
  after_results_simp <;> rfl

theorem takeOps0_v38 (V : Valuation τ sig (Elt F)) :
    after takeOps0 V (no_index (Proc.devRef .tc main_v38)) = subf (V (Proc.devRef .tc main_v19) : Arr F S8192x64 .f32)
      (takeA (V (Proc.devRef .tc main_v21)) (V (Proc.devRef .tc main_v36))) := by
  simp only [takeOps0, TRef.binary, TRef.nullary, TRef.ternary, TRef.unary, TRef.toBuf, TRef.ofBuf, cast_eq]
  after_results_simp <;> rfl

theorem distOps1a_v40 (V : Valuation τ sig (Elt F)) :
    after distOps1a V (no_index (Proc.devRef .tc main_v40)) = bookA ![1, 0, 0] slices_S3x1024x64_S1x1024x64_1_0_0 (V (Proc.devRef .tc main_arg4)) := by
  after_results_simp <;> rfl

theorem distOps1a_v49 (V : Valuation τ sig (Elt F)) :
    after distOps1a V (no_index (Proc.devRef .tc main_v49)) = crossA (V (Proc.devRef .tc main_v38))
      (bookA ![1, 0, 0] slices_S3x1024x64_S1x1024x64_1_0_0 (V (Proc.devRef .tc main_arg4))) := by
  after_results_simp <;> rfl

theorem distOps1a_v53 (V : Valuation τ sig (Elt F)) :
    after distOps1a V (no_index (Proc.devRef .tc main_v53))
      = normsA (bookA ![1, 0, 0] slices_S3x1024x64_S1x1024x64_1_0_0 (V (Proc.devRef .tc main_arg4))) := by
  after_results_simp <;> rfl

theorem distOps1b_v54 (V : Valuation τ sig (Elt F)) :
    after distOps1b V (no_index (Proc.devRef .tc main_v54))
      = addf (V (Proc.devRef .tc main_v49) : Arr F S8192x1024 .f32) (V (Proc.devRef .tc main_v53) : Arr F S8192x1024 .f32) := by
  after_results_simp <;> rfl

theorem argOps1_v55 (V : Valuation τ sig (Elt F)) :
    after argOps1 V (no_index (Proc.devRef .tc main_v55)) = pickA (V (Proc.devRef .tc main_v54)) := by
  simp only [argOps1, TRef.quaternary, TRef.nullary, TRef.toBuf, TRef.ofBuf, cast_eq]
  after_results_simp <;> rfl

theorem takeOps1_v57 (V : Valuation τ sig (Elt F)) :
    after takeOps1 V (no_index (Proc.devRef .tc main_v57)) = subf (V (Proc.devRef .tc main_v38) : Arr F S8192x64 .f32)
      (takeA (V (Proc.devRef .tc main_v40)) (V (Proc.devRef .tc main_v55))) := by
  simp only [takeOps1, TRef.binary, TRef.nullary, TRef.ternary, TRef.unary, TRef.toBuf, TRef.ofBuf, cast_eq]
  after_results_simp <;> rfl

theorem distOps2_v73 (V : Valuation τ sig (Elt F)) :
    after distOps2 V (no_index (Proc.devRef .tc main_v73)) = distA (V (Proc.devRef .tc main_v57))
      (bookA ![2, 0, 0] slices_S3x1024x64_S1x1024x64_2_0_0 (V (Proc.devRef .tc main_arg4))) := by
  after_results_simp <;> rfl

theorem argOps2_v74 (V : Valuation τ sig (Elt F)) :
    after argOps2 V (no_index (Proc.devRef .tc main_v74)) = pickA (V (Proc.devRef .tc main_v73)) := by
  simp only [argOps2, TRef.quaternary, TRef.nullary, TRef.toBuf, TRef.ofBuf, cast_eq]
  after_results_simp <;> rfl

theorem outOps_v81 (V : Valuation τ sig (Elt F)) :
    after outOps V (no_index (Proc.devRef .tc main_v81))
      = codesA (F := F) (V (Proc.devRef .tc main_v36)) (V (Proc.devRef .tc main_v55)) (V (Proc.devRef .tc main_v74)) := by
  after_results_simp
  rfl

theorem outOps_v83 (V : Valuation τ sig (Elt F)) :
    after outOps V (no_index (Proc.devRef .tc main_v83)) = maskA (F := F) (V (Proc.devRef .tc main_arg3)) := by
  after_results_simp <;> rfl

/-! ## The whole run -/

/-- One list of operations after another: the second from what the first leaves. -/
theorem after_append (a b : List (HloOp τ sig (Elt F))) (V : Valuation τ sig (Elt F)) : after (a ++ b) V = after b (after a V) := by
  induction a generalizing V with
  | nil => rfl
  | cons op a ih => exact ih _

/-- The three stacked codebooks' level `0`, `1` and `2`. -/
abbrev book0 (cbs : Arr F S3x1024x64 .f32) : Arr F S1024x64 .f32 := bookA ![0, 0, 0] slices_S3x1024x64_S1x1024x64_0_0_0 cbs
@[inherit_doc book0] abbrev book1 (cbs : Arr F S3x1024x64 .f32) : Arr F S1024x64 .f32 := bookA ![1, 0, 0] slices_S3x1024x64_S1x1024x64_1_0_0 cbs
@[inherit_doc book0] abbrev book2 (cbs : Arr F S3x1024x64 .f32) : Arr F S1024x64 .f32 := bookA ![2, 0, 0] slices_S3x1024x64_S1x1024x64_2_0_0 cbs

/-- The codes the reference computes from the encoded rows `z` and the codebooks. -/
def rvqA (z : Arr F S8192x64 .f32) (cbs : Arr F S3x1024x64 .f32) : Arr F S64x384 .i32 :=
  codesA (F := F) (pickA (distA z (book0 cbs))) (pickA (distA (nextA z (book0 cbs)) (book1 cbs)))
    (pickA (distA (nextA (nextA z (book0 cbs)) (book1 cbs)) (book2 cbs)))

/-- The buffers the operations write, none of them an argument. -/
theorem arg_keep (V : Valuation τ sig (Elt F)) (r : Ref sig .tc)
    (h : r ∉ encOpsWrites ++ distOps0Writes ++ argOps0Writes ++ takeOps0Writes ++ distOps1aWrites ++ distOps1bWrites ++ argOps1Writes
      ++ takeOps1Writes ++ distOps2Writes ++ argOps2Writes ++ takeOps2Writes ++ outOpsWrites) :
    after allOps V (Proc.devRef .tc r) = V (Proc.devRef .tc r) := by
  simp only [List.mem_append, not_or] at h
  obtain ⟨⟨⟨⟨⟨⟨⟨⟨⟨⟨⟨h1, h2⟩, h3⟩, h4⟩, h5⟩, h6⟩, h7⟩, h8⟩, h9⟩, h10⟩, h11⟩, h12⟩ := h
  rw [allOps, part0Ops, part1Ops]
  simp only [after_append]
  rw [outOps_keep _ _ h12, takeOps2_keep _ _ h11, argOps2_keep _ _ h10, distOps2_keep _ _ h9, takeOps1_keep _ _ h8, argOps1_keep _ _ h7,
    distOps1b_keep _ _ h6, distOps1a_keep _ _ h5, takeOps0_keep _ _ h4, argOps0_keep _ _ h3, distOps0_keep _ _ h2, encOps_keep _ _ h1]

/-- The result of codes after the whole program. -/
theorem allOps_v81 (V : Valuation τ sig (Elt F)) :
    after allOps V (no_index (Proc.devRef .tc main_v81))
      = rvqA (encA (V (Proc.devRef .tc main_arg0)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12))) (V (Proc.devRef .tc main_arg4)) := by
  rw [allOps, part0Ops, part1Ops]
  simp (disch := decide) only [after_append, outOps_v81, takeOps2_keep, argOps2_v74, argOps2_keep, distOps2_v73, distOps2_keep, takeOps1_v57,
    takeOps1_keep, argOps1_v55, argOps1_keep, distOps1b_v54, distOps1b_keep, distOps1a_v40, distOps1a_v49, distOps1a_v53, distOps1a_keep,
    takeOps0_v38, takeOps0_keep, argOps0_v36, argOps0_keep, distOps0_v21, distOps0_v35, distOps0_keep, encOps_v19, encOps_keep]
  rfl

/-- The result of the mask after the whole program. -/
theorem allOps_v83 (V : Valuation τ sig (Elt F)) :
    after allOps V (no_index (Proc.devRef .tc main_v83)) = maskA (F := F) (V (Proc.devRef .tc main_arg3)) := by
  rw [allOps, part0Ops, part1Ops]
  simp (disch := decide) only [after_append, outOps_v83, takeOps2_keep, argOps2_keep, distOps2_keep, takeOps1_keep, argOps1_keep,
    distOps1b_keep, distOps1a_keep, takeOps0_keep, argOps0_keep, distOps0_keep, encOps_keep]

/-- The reference runs to its end from any memory: every buffer holds what the operations in order leave in it, and every
    semaphore counter is zero. -/
theorem run_all (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after allOps (launchContents m c) (Proc.devRef .tc b))
        ∧ r.2.sem = fun _ => 0 :=
  (θ_run defs _ _).mono (fun r h => ⟨h, sem_eq_zero_of_no_sems (by decide) r.2⟩)
    (run_seq scopedRefs_eq scopedSems_eq defs main (fun _ => allOps) main_eq (fun _ => allOps_plain.1) m ρ
      fun _ => List.forall_iff_forall_mem.mp allOps_plain.2)

end Cert.ReferenceIdeal.Host

end
-- ==== Proof.Spec.lean ====
/- The mathematics both programs compute, over the extended reals: dense layers, squared distances to a codebook, the
   first nearest codeword, and the residual it leaves; and the arg-min of both programs read as that first nearest
   position. -/
module

public import Idealize.ShloMosaic.Lib.Pointwise
public import Idealize.ShloMosaic.PureOps.Ideal.Laws

@[expose] public section

set_option maxRecDepth 16384

noncomputable section

namespace Cert.Rvq

open Idealize.ShloMosaic Idealize.ShloMosaic.TcCoe Idealize.SL.Sem

/-! ## The first least position -/

/-- `k` is the first position at which `d` is least. -/
def IsFirst {n : ℕ} (d : Fin n → EReal) (k : Fin n) : Prop := (∀ k', d k ≤ d k') ∧ ∀ k', d k' ≤ d k → k ≤ k'

/-- Every nonempty family has a first least position. -/
theorem exists_isFirst {n : ℕ} (d : Fin (n + 1) → EReal) : ∃ k, IsFirst d k := by
  obtain ⟨m, -, hm⟩ := Finset.exists_min_image Finset.univ d Finset.univ_nonempty
  obtain ⟨k, hk, hk'⟩ := Finset.exists_min_image (Finset.univ.filter fun k => d k ≤ d m) id ⟨m, by simp⟩
  have hkm : d k ≤ d m := (Finset.mem_filter.mp hk).2
  exact ⟨k, fun k' => hkm.trans (hm k' (Finset.mem_univ _)), fun k' h => hk' k' (by simpa using h.trans hkm)⟩

/-- There is only one. -/
theorem IsFirst.unique {n : ℕ} {d : Fin n → EReal} {k k' : Fin n} (h : IsFirst d k) (h' : IsFirst d k') : k = k' :=
  le_antisymm (h.2 _ (h'.1 _)) (h'.2 _ (h.1 _))

/-- The first position at which `d` is least. -/
def pick {n : ℕ} (d : Fin (n + 1) → EReal) : Fin (n + 1) := (exists_isFirst d).choose

theorem pick_isFirst {n : ℕ} (d : Fin (n + 1) → EReal) : IsFirst d (pick d) := (exists_isFirst d).choose_spec

/-! ## The stages -/

/-- The distance's factor two, as both programs write it. -/
abbrev two : EReal := Ideal.ofBits .f32 0x40000000#32

/-- One row times a matrix, plus the bias. -/
def dense {n k : ℕ} (x : Fin n → EReal) (W : Fin n → Fin k → EReal) (b : Fin k → EReal) : Fin k → EReal :=
  fun j => (∑ i, x i * W i j) + b j

/-- A layer with relu. -/
def layer {n k : ℕ} (x : Fin n → EReal) (W : Fin n → Fin k → EReal) (b : Fin k → EReal) : Fin k → EReal :=
  fun j => max (dense x W b j) 0

/-- The squared distance from `r` to codeword `k`, expanded as both programs expand it. -/
def dist {n : ℕ} (r : Fin 64 → EReal) (cb : Fin n → Fin 64 → EReal) (k : Fin n) : EReal :=
  (∑ e, r e * r e) - two * (∑ e, r e * cb k e) + ∑ e, cb k e * cb k e

/-- The code of `r`: its first nearest codeword. -/
def code (r : Fin 64 → EReal) (cb : Fin 1024 → Fin 64 → EReal) : Fin 1024 := pick (dist r cb)

/-- The residual `r` leaves. -/
def next (r : Fin 64 → EReal) (cb : Fin 1024 → Fin 64 → EReal) : Fin 64 → EReal := fun e => r e - cb (code r cb) e

/-- A matrix by rows and columns, and a vector by entries. -/
abbrev mat {a b : ℕ} (W : (⟨2, ![a, b]⟩ : Shape).Idx → EReal) : Fin a → Fin b → EReal := fun i j => W (ix2 i j)
@[inherit_doc mat] abbrev vec {a : ℕ} (b : (⟨1, ![a]⟩ : Shape).Idx → EReal) : Fin a → EReal := fun i => b (ix1 i)

/-- One token encoded: three layers with relu and a dense one. -/
def encode (t : Fin 768 → EReal) (W0 : Fin 768 → Fin 512 → EReal) (b0 : Fin 512 → EReal) (W1 : Fin 512 → Fin 256 → EReal) (b1 : Fin 256 → EReal)
    (W2 : Fin 256 → Fin 128 → EReal) (b2 : Fin 128 → EReal) (W3 : Fin 128 → Fin 64 → EReal) (b3 : Fin 64 → EReal) : Fin 64 → EReal :=
  dense (layer (layer (layer t W0 b0) W1 b1) W2 b2) W3 b3

/-- Token `p`, the sequences one after another. -/
def token (x : (⟨3, ![64, 128, 768]⟩ : Shape).Idx → EReal) (p : Fin 8192) : Fin 768 → EReal :=
  fun i => x (ix3 ⟨p.val / 128, by omega⟩ ⟨p.val % 128, by omega⟩ i)

/-- Level `l`'s codebook. -/
def book (cbs : (⟨3, ![3, 1024, 64]⟩ : Shape).Idx → EReal) (l : Fin 3) : Fin 1024 → Fin 64 → EReal := fun k e => cbs (ix3 l k e)

/-- The residual before each level. -/
def residual (z : Fin 64 → EReal) (cb : Fin 3 → Fin 1024 → Fin 64 → EReal) : Fin 3 → Fin 64 → EReal :=
  ![z, next z (cb 0), next (next z (cb 0)) (cb 1)]

/-- The three codes of an encoded token. -/
def codes (z : Fin 64 → EReal) (cb : Fin 3 → Fin 1024 → Fin 64 → EReal) (l : Fin 3) : Fin 1024 := code (residual z cb l) (cb l)

/-! ## The kernel's arg-min -/

/-- The kernel's arg-min along the rows is each row's first least position. -/
theorem reduceIndex_row {a n : ℕ} (h : (⟨2, ![a, n + 1]⟩ : Shape).Reduces [1] ⟨1, ![a]⟩) (x : FVec Ideal ⟨2, ![a, n + 1]⟩ .f32) (p : Fin a) :
    Ideal.reduceIndex .argMin 1 h x (ix1 p) = BitVec.ofNat 32 (pick fun k => x (ix2 p k)).val := by
  classical
  have hf : ∀ i : (⟨2, ![a, n + 1]⟩ : Shape).Idx, h.drop i = ix1 p ↔ ∃ k : Fin (n + 1), ix2 p k = i := fun i => h.fiber_r2_a1 (ix1 p) i
  set K := pick fun k => x (ix2 p k) with hK
  have hP : IsFirst (fun k => x (ix2 p k)) K := pick_isFirst _
  unfold Ideal.reduceIndex
  dsimp only
  simp only [if_neg (show ¬ ArgKind.argMin = ArgKind.argMax from by decide)]
  refine congrArg _ ?_
  have key : ∀ S : Finset ℕ, K.val ∈ S → (∀ v ∈ S, K.val ≤ v) → S.min.getD 0 = K.val := by
    intro S h1 h2
    have : S.min = (K.val : WithTop ℕ) := le_antisymm (Finset.min_le h1) (Finset.le_min fun v hv => WithTop.coe_le_coe.mpr (h2 v hv))
    rw [this]; rfl
  refine key _ ?_ ?_
  · refine Finset.mem_image.mpr ⟨ix2 p K, ?_, rfl⟩
    refine Finset.mem_filter.mpr ⟨Finset.mem_filter.mpr ⟨Finset.mem_univ _, (hf _).mpr ⟨K, rfl⟩⟩, ?_⟩
    intro i' hi'
    obtain ⟨k, rfl⟩ := (hf _).mp (Finset.mem_filter.mp hi').2
    exact not_lt.mpr (hP.1 k)
  · intro v hv
    obtain ⟨i, hi, rfl⟩ := Finset.mem_image.mp hv
    obtain ⟨hi, hb⟩ := Finset.mem_filter.mp hi
    obtain ⟨k, rfl⟩ := (hf _).mp (Finset.mem_filter.mp hi).2
    have := hb (ix2 p K) (Finset.mem_filter.mpr ⟨Finset.mem_univ _, (hf _).mpr ⟨K, rfl⟩⟩)
    exact hP.2 k (not_lt.mp this)

/-! ## The reference's arg-min -/

/-- A step that keeps the pair of the smaller value, and of the smaller position at equal values. -/
def KeepsLeast (f : EReal × BitVec 32 → EReal × BitVec 32 → EReal × BitVec 32) : Prop :=
  ∀ (v w : EReal) (i j : ℕ), i < 1024 → j < 1024 →
    f (v, BitVec.ofNat 32 i) (w, BitVec.ofNat 32 j)
      = if v < w ∨ (v = w ∧ i < j) then (v, BitVec.ofNat 32 i) else (w, BitVec.ofNat 32 j)

/-- Folding such a step over positions keeps a pair that was among them (or the first one) and that none of them is before. -/
theorem foldl_least {f : EReal × BitVec 32 → EReal × BitVec 32 → EReal × BitVec 32} (hf : KeepsLeast f) (d : Fin 1024 → EReal)
    (l : List (Fin 1024)) (v : EReal) (i : ℕ) (hi : i < 1024) :
    ∃ (v' : EReal) (i' : ℕ), i' < 1024 ∧ (l.map fun k => (d k, BitVec.ofNat 32 k.val)).foldl f (v, BitVec.ofNat 32 i) = (v', BitVec.ofNat 32 i')
      ∧ ((v' = v ∧ i' = i) ∨ ∃ k ∈ l, v' = d k ∧ i' = k.val)
      ∧ (v' < v ∨ (v' = v ∧ i' ≤ i)) ∧ ∀ k ∈ l, v' < d k ∨ (v' = d k ∧ i' ≤ k.val) := by
  induction l generalizing v i with
  | nil => exact ⟨v, i, hi, rfl, .inl ⟨rfl, rfl⟩, .inr ⟨rfl, le_rfl⟩, by simp⟩
  | cons k l ih =>
    simp only [List.map_cons, List.foldl_cons]
    rw [hf v (d k) i k.val hi k.isLt]
    by_cases hc : v < d k ∨ (v = d k ∧ i < k.val)
    · rw [if_pos hc]
      obtain ⟨v', i', h1, h2, h3, h4, h5⟩ := ih v i hi
      refine ⟨v', i', h1, h2, ?_, h4, ?_⟩
      · rcases h3 with h3 | ⟨q, hq, h3⟩
        · exact .inl h3
        · exact .inr ⟨q, List.mem_cons_of_mem _ hq, h3⟩
      · intro q hq
        rcases List.mem_cons.mp hq with rfl | hq
        · rcases h4 with h4 | ⟨h4, h4'⟩ <;> rcases hc with hc | ⟨hc, hc'⟩
          · exact .inl (h4.trans hc)
          · exact .inl (hc ▸ h4)
          · exact .inl (h4 ▸ hc)
          · exact .inr ⟨h4.trans hc, h4'.trans hc'.le⟩
        · exact h5 q hq
    · rw [if_neg hc]
      obtain ⟨v', i', h1, h2, h3, h4, h5⟩ := ih (d k) k.val k.isLt
      have hle : d k < v ∨ (d k = v ∧ k.val ≤ i) := by
        rcases lt_trichotomy (d k) v with h | h | h
        · exact .inl h
        · exact .inr ⟨h, not_lt.mp fun h' => hc (.inr ⟨h.symm, h'⟩)⟩
        · exact absurd (.inl h) hc
      refine ⟨v', i', h1, h2, .inr ?_, ?_, ?_⟩
      · rcases h3 with h3 | ⟨q, hq, h3⟩
        · exact ⟨k, List.mem_cons_self, h3⟩
        · exact ⟨q, List.mem_cons_of_mem _ hq, h3⟩
      · rcases h4 with h4 | ⟨h4, h4'⟩ <;> rcases hle with hc | ⟨hc, hc'⟩
        · exact .inl (h4.trans hc)
        · exact .inl (hc ▸ h4)
        · exact .inl (h4 ▸ hc)
        · exact .inr ⟨h4.trans hc, h4'.trans hc'⟩
      · intro q hq
        rcases List.mem_cons.mp hq with rfl | hq
        · exact h4
        · exact h5 q hq

/-- The column of the `n`-th place of a matrix read along its rows. -/
def colOf {a : ℕ} (n : Fin (⟨2, ![a, 1024]⟩ : Shape).numel) : Fin 1024 := (⟨2, ![a, 1024]⟩ : Shape).rowMajor.symm n 1

/-- The reference's arg-min along the rows, from the pair of the greatest value and position zero, is each row's first least
    position. -/
theorem argReduce_row {a : ℕ} {u : Shape} {f : EReal × BitVec 32 → EReal × BitVec 32 → EReal × BitVec 32} (hf : KeepsLeast f)
    (h : (⟨2, ![a, 1024]⟩ : Shape).ReducesTo [1] ⟨1, ![a]⟩) (hu : 0 < u.numel) (x : FVec Ideal ⟨2, ![a, 1024]⟩ .f32)
    (y : IVec ⟨2, ![a, 1024]⟩ 32) (hy : ∀ p k, y (ix2 p k) = BitVec.ofNat 32 k.val) (ix : FVec Ideal u .f32) (hix : ∀ j, ix j = (⊤ : EReal))
    (iy : IVec u 32) (hiy : ∀ j, iy j = 0#32) (p : Fin a) :
    ∃ v, Host.argReduce (F := Ideal) (φ := .f32) f x y ix iy h hu (ix1 p) = (v, BitVec.ofNat 32 (pick fun k => x (ix2 p k)).val) := by
  have hfib : ∀ i : (⟨2, ![a, 1024]⟩ : Shape).Idx, h.drop i = ix1 p ↔ ∃ k : Fin 1024, ix2 p k = i := fun i => h.fiber_r2_a1 (ix1 p) i
  rw [Ideal.argReduce_eq_reduce2, Host.reduce2_eq_foldl_fiber, hix, hiy]
  set L := (List.finRange (⟨2, ![a, 1024]⟩ : Shape).numel).filter fun n => h.drop ((⟨2, ![a, 1024]⟩ : Shape).rowMajor.symm n) = ix1 p with hL
  have hlist : Host.argReduceFiber x y h (ix1 p)
      = (L.map colOf).map fun k => (x (ix2 p k), BitVec.ofNat 32 k.val) := by
    rw [List.map_map]
    refine List.map_congr_left fun n hn => ?_
    obtain ⟨k, hk⟩ := (hfib _).mp (of_decide_eq_true (List.mem_filter.mp hn).2)
    dsimp only [Function.comp]
    have hc : colOf n = k := congrFun hk.symm 1
    rw [hc, ← hk, hy]
  have hmem : ∀ k : Fin 1024, k ∈ L.map colOf := fun k =>
    List.mem_map.mpr ⟨(⟨2, ![a, 1024]⟩ : Shape).rowMajor (ix2 p k),
      List.mem_filter.mpr ⟨List.mem_finRange _, decide_eq_true ((hfib _).mpr ⟨k, by rw [Equiv.symm_apply_apply]⟩)⟩, by
        unfold colOf; rw [Equiv.symm_apply_apply]; rfl⟩
  rw [hlist]
  obtain ⟨v', i', h1, h2, h3, h4, h5⟩ := foldl_least hf (fun k => x (ix2 p k)) (L.map colOf)
    ⊤ 0 (by omega)
  refine ⟨v', h2.trans (congrArg (fun i => (v', BitVec.ofNat 32 i)) ?_)⟩
  have hfirst : IsFirst (fun k : Fin 1024 => x (ix2 p k)) ⟨i', h1⟩ := by
    have hv : v' = x (ix2 p (⟨i', h1⟩ : Fin 1024)) := by
      rcases h3 with ⟨h3, h3'⟩ | ⟨k, -, h3, h3'⟩
      · rcases h5 ⟨i', h1⟩ (hmem _) with h | ⟨h, -⟩
        · exact absurd (h3 ▸ h) not_top_lt
        · exact h
      · rw [h3]; exact congrArg (fun k : Fin 1024 => x (ix2 p k)) (Fin.ext h3'.symm)
    refine ⟨fun k => ?_, fun k hk => ?_⟩
    all_goals beta_reduce at *
    · rcases h5 k (hmem _) with h | ⟨h, -⟩
      · exact hv ▸ h.le
      · exact hv ▸ h.le
    · rcases h5 k (hmem _) with h | ⟨-, h⟩
      · exact absurd h (not_lt.mpr (hv ▸ hk))
      · exact h
  exact congrArg Fin.val (hfirst.unique (pick_isFirst _))

end Cert.Rvq

end
-- ==== Proof.Finite.lean ====
/- What the precondition says of the codebooks: every entry is finite. -/
module

public import proofs.«01_k».proof.Pre_no_tie
public import proofs.«01_k».proof.Proof.Spec
public import Idealize.ShloMosaic.Lib.Pointwise

@[expose] public section

set_option maxRecDepth 16384

noncomputable section

namespace Cert.Pre_no_tie.Entries

open Cert.Pre_no_tie Idealize.ShloMosaic Idealize.ShloMosaic.TcCoe Idealize.SL.Sem Cert.Rvq

variable [Facts]

/-- Of two bits whose conjunction is one, the first is one. -/
theorem left_one {a b : BitVec 1} (h : IntOp.andi a b = 1#1) : a = 1#1 := by
  revert a b; decide

/-- A value whose absolute value is below the top is finite. -/
theorem finite_of_below {x : EReal} (h : (FloatOps.cmpf (F := Ideal) (φ := .f32) .olt (FloatOps.absf (F := Ideal) (φ := .f32) x) (Ideal.ofBits .f32 0x7F800000#32)) = 1#1) : x ≠ ⊤ ∧ x ≠ ⊥ := by
  have ht : Ideal.ofBits .f32 0x7F800000#32 = ⊤ := by simp [Ideal.ofBits, Ideal.ieee]
  rw [ht] at h
  constructor
  · rintro rfl
    simp [FloatOps.cmpf, FloatOps.absf, Ideal.cmp] at h
  · rintro rfl
    simp [FloatOps.cmpf, FloatOps.absf, Ideal.cmp] at h

/-- The last part's bit at an entry says the entry is finite. -/
theorem part5 (cb : FVec Ideal S3x1024x64 .f32) (b : IVec S_ 1) (z : FVec Ideal S8192x64 .f32) (w : FVec Ideal S1024x64 .f32)
    (d : FVec Ideal S8192x1024 .f32) (n : IVec S8192 32) (h : fn_part5 (F := Ideal) cb b z w d n = fun _ => 1#1) (l : Fin 3) (k : Fin 1024) (e : Fin 64) :
    book cb l k e ≠ ⊤ ∧ book cb l k e ≠ ⊥ := by
  have h1 := congrFun h (ix3 l k e)
  unfold fn_part5 at h1
  exact finite_of_below (left_one h1)

/-- Where the precondition holds, every codebook entry is finite. -/
theorem finite (a0 : FVec Ideal S64x128x768 .f32) (a1 : IVec S64x128 32) (a2 : IVec S64 32) (a3 : IVec S64x128 1) (cb : FVec Ideal S3x1024x64 .f32)
    (a5 : FVec Ideal S768x512 .f32) (a6 : FVec Ideal S512 .f32) (a7 : FVec Ideal S512x256 .f32) (a8 : FVec Ideal S256 .f32)
    (a9 : FVec Ideal S256x128 .f32) (a10 : FVec Ideal S128 .f32) (a11 : FVec Ideal S128x64 .f32) (a12 : FVec Ideal S64 .f32)
    (h : fn (F := Ideal) a0 a1 a2 a3 cb a5 a6 a7 a8 a9 a10 a11 a12 = fun _ => 1#1) (l : Fin 3) (k : Fin 1024) (e : Fin 64) :
    book cb l k e ≠ ⊤ ∧ book cb l k e ≠ ⊥ := by
  unfold fn fn_part1 fn_part2 fn_part3 fn_part4 at h
  exact part5 cb _ _ _ _ _ h l k e

end Cert.Pre_no_tie.Entries

end
-- ==== Proof.Payload.lean ====
/- The kernel's blocks read at an index: the encoder, one level's codes of a slab of 512 rows, and the residual the level
   leaves, as the mathematics of Spec.lean. -/
module

public import proofs.«01_k».proof.Proof.Gen.KernelIdeal.Skeleton
public import proofs.«01_k».proof.Proof.Spec

@[expose] public section

set_option maxRecDepth 16384

noncomputable section

namespace Cert.KernelIdeal.Block

open Cert.KernelIdeal Cert.KernelIdeal.Gen Idealize.ShloMosaic Idealize.ShloMosaic.TcCoe Idealize.SL.Sem Cert.Rvq

/-! ## Sums as the kernel groups them -/

/-- Eight terms added as a tree of halves. -/
theorem sum_tree8 (g : Fin 8 → EReal) : g 0 + g 4 + (g 2 + g 6) + (g 1 + g 5 + (g 3 + g 7)) = ∑ t, g t := by
  rw [Fin.sum_univ_eight]
  ac_rfl

/-- The `t`-th of eight stacked sums of sixty-four terms. -/
abbrev stack8 (f : Fin 64 → EReal) (t : Fin 8) : EReal :=
  f ⟨0 * 8 + t.val, by omega⟩ + f ⟨1 * 8 + t.val, by omega⟩ + f ⟨2 * 8 + t.val, by omega⟩ + f ⟨3 * 8 + t.val, by omega⟩
    + f ⟨4 * 8 + t.val, by omega⟩ + f ⟨5 * 8 + t.val, by omega⟩ + f ⟨6 * 8 + t.val, by omega⟩ + f ⟨7 * 8 + t.val, by omega⟩

/-- Sixty-four terms: eight groups of eight added one after another, then a tree of halves. -/
theorem sum_tree64 (f : Fin 64 → EReal) :
    stack8 f 0 + stack8 f 4 + (stack8 f 2 + stack8 f 6) + (stack8 f 1 + stack8 f 5 + (stack8 f 3 + stack8 f 7)) = ∑ e, f e := by
  rw [sum_tree8, Fin.sum_univ_tiles 8 8 rfl f, Finset.sum_comm]
  exact Finset.sum_congr rfl fun t _ => by rw [Fin.sum_univ_eight]; rfl

/-- A sum over 768 in three blocks of 256. -/
theorem sum768 (f : Fin 768 → EReal) : ∑ k, f k
    = ∑ t : Fin 256, f ⟨t.val, by omega⟩ + ∑ t : Fin 256, f ⟨256 + t.val, by omega⟩ + ∑ t : Fin 256, f ⟨512 + t.val, by omega⟩ := by
  rw [Fin.sum_univ_tiles 3 256 rfl f, Fin.sum_univ_three]
  simp

/-- A sum over 512 in two blocks of 256. -/
theorem sum512 (f : Fin 512 → EReal) : ∑ k, f k = ∑ t : Fin 256, f ⟨t.val, by omega⟩ + ∑ t : Fin 256, f ⟨256 + t.val, by omega⟩ := by
  rw [Fin.sum_univ_tiles 2 256 rfl f, Fin.sum_univ_two]
  simp

/-! ## The encoder -/

/-- The encoder's rows are the encoded rows of its block of tokens. -/
theorem encoder_at (x : FVec Ideal S1024x768 .f32) (W0 : FVec Ideal S768x512 .f32) (b0 : FVec Ideal S1x512 .f32) (W1 : FVec Ideal S512x256 .f32)
    (b1 : FVec Ideal S1x256 .f32) (W2 : FVec Ideal S256x128 .f32) (b2 : FVec Ideal S1x128 .f32) (W3 : FVec Ideal S128x64 .f32)
    (b3 : FVec Ideal S1x64 .f32) (p : Fin 1024) (e : Fin 64) :
    k0_pay3 (F := Ideal) (k0_pay2 (F := Ideal) x W0 b0 W1 b1 W2) b2 W3 b3 (ix2 p e)
      = encode (mat x p) (mat W0) (mat b0 0) (mat W1) (mat b1 0) (mat W2) (mat b2 0) (mat W3) (mat b3 0) e := by
  pointwise [k0_pay3, k0_pay2, encode, dense, layer]
  simp only [sum768, sum512]

/-! ## A level of a slab -/

/-- The codes of a slab `r` against the codebook `w`, its codewords in columns. -/
def slabCodes (r : FVec Ideal S512x64 .f32) (w : FVec Ideal S1x64x1024 .f32) : IVec S512 32 :=
  k0_pay15 (F := Ideal) r (k0_pay6 (F := Ideal) w) (k0_pay7 (F := Ideal) w)

/-- The residual of a slab `r` after a level. -/
def slabNext (r : FVec Ideal S512x64 .f32) (w : FVec Ideal S1x64x1024 .f32) (hi mid lo : FVec Ideal S1x1024x64 .bf16) : FVec Ideal S512x64 .f32 :=
  let oh := k0_pay17 (F := Ideal) (iota .tc S512x1024 32 [1] iota_S512x1024_d1_w32) r (k0_pay6 (F := Ideal) w) (k0_pay7 (F := Ideal) w)
  k0_pay20 (F := Ideal) r oh (matmul dot_S512x1024_S1024x64_S512x64_1_0_0_1_n_n none oh (k0_pay19 (F := Ideal) hi) (constant S512x64 .f32 0x00000000#32))
    (k0_pay19 (F := Ideal) mid) lo

/-- A transposed codebook's codewords. -/
def words (w : FVec Ideal S1x64x1024 .f32) : Fin 1024 → Fin 64 → EReal := fun k e => w (ix3 0 e k)

/-- The squared norms of the codewords. -/
theorem norms_at (w : FVec Ideal S1x64x1024 .f32) (k : Fin 1024) : k0_pay7 (F := Ideal) w (ix2 0 k) = ∑ e, words w k e * words w k e := by
  pointwise [k0_pay7, k0_pay6]
  exact sum_tree64 fun e => words w k e * words w k e

/-- Each row's code is its first nearest codeword. -/
theorem slabCodes_at (r : FVec Ideal S512x64 .f32) (w : FVec Ideal S1x64x1024 .f32) (p : Fin 512) :
    slabCodes r w (ix1 p) = BitVec.ofNat 32 (code (mat r p) (words w)).val := by
  unfold slabCodes k0_pay15
  refine (reduceIndex_row reduces_S512x1024_S512 _ p).trans ?_
  refine congrArg (fun d => BitVec.ofNat 32 (pick d).val) (funext fun k => ?_)
  pointwise [norms_at, k0_pay6]
  exact congrArg (fun s => s - two * (∑ e, r (ix2 p e) * words w k e) + ∑ e, words w k e * words w k e)
    (sum_tree64 fun e => r (ix2 p e) * r (ix2 p e))

/-- The one-hot entry: one at the code, zero elsewhere. -/
theorem oneHot (x c : Fin 1024) :
    (FloatOps.sitofp (F := Ideal) .f32 (BitVec.setWidth 32 (IntOp.cmpi .eq (BitVec.ofNat 32 x.val) (BitVec.ofNat 32 c.val))) : EReal)
      = if x = c then 1 else 0 := by
  have h : (BitVec.ofNat 32 x.val = BitVec.ofNat 32 c.val) ↔ x = c := by
    rw [← BitVec.toNat_inj, Fin.ext_iff]
    simp [Nat.mod_eq_of_lt (show x.val < 4294967296 by omega), Nat.mod_eq_of_lt (show c.val < 4294967296 by omega)]
  by_cases hx : x = c
  · subst hx
    simp [IntOp.cmpi, FloatOps.sitofp]
  · have h' : (BitVec.ofNat 32 x.val == BitVec.ofNat 32 c.val) = false := beq_false_of_ne fun q => hx (h.mp q)
    simp [IntOp.cmpi, FloatOps.sitofp, hx, h']

/-- The residual takes the code's row of the codebook's high part away, where the middle and low parts are zero. -/
theorem slabNext_at (r : FVec Ideal S512x64 .f32) (w : FVec Ideal S1x64x1024 .f32) (hi mid lo : FVec Ideal S1x1024x64 .bf16)
    (hhi : ∀ k e, hi (ix3 0 k e) = words w k e) (hmid : ∀ k e, mid (ix3 0 k e) = (0 : EReal)) (hlo : ∀ k e, lo (ix3 0 k e) = (0 : EReal)) (p : Fin 512) :
    mat (slabNext r w hi mid lo) p = next (mat r p) (words w) := by
  funext e
  have hc := slabCodes_at r w p
  unfold slabCodes at hc
  show slabNext r w hi mid lo (ix2 p e) = _
  unfold slabNext
  pointwise [k0_pay20, k0_pay17, k0_pay19, hc, hhi, hmid, hlo]
  simp only [oneHot, mul_zero, Finset.sum_const_zero, add_zero, ite_mul, one_mul, zero_mul, Finset.sum_ite_eq', Finset.mem_univ, if_true]
  rfl

end Cert.KernelIdeal.Block

end
-- ==== Proof.Stores.lean ====
/- What one grid point stores: the kernel's payloads named as the slabs' codes and residuals of Payload.lean, and each
   stored entry as the code of its row at its level. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem Cert.Rvq

/-! ## The printed payloads as codes and residuals -/

/-- A slab's codes as the column a store writes. -/
abbrev column (v : IVec S512 32) : IVec S512x1 32 := shapeCast S512x1 v shapeCasts_S512_S512x1

section Names

variable (v : FVec Ideal S1024x128 .f32) (b2 : FVec Ideal S1x128 .f32) (W3 : FVec Ideal S128x64 .f32) (b3 : FVec Ideal S1x64 .f32)
  (r : FVec Ideal S512x64 .f32) (w : FVec Ideal S1x64x1024 .f32) (hi mid lo : FVec Ideal S1x1024x64 .bf16)

/-- Level zero of the upper slab stores that slab's codes. -/
theorem store_upper0 : k0_pay12 (F := Ideal) (k0_pay7 w) (k0_pay8 v b2 W3 b3 w) (k0_pay9 v b2 W3 b3) (k0_pay10 v b2 W3 b3)
    = column (slabCodes (k0_pay4 v b2 W3 b3) w) := rfl

/-- Level zero of the lower slab stores that slab's codes. -/
theorem store_lower0 : k0_pay16 (F := Ideal) r (k0_pay6 w) (k0_pay7 w) = column (slabCodes r w) := rfl

/-- Level one of the upper slab stores that slab's codes. -/
theorem store_upper1 : k0_pay26 (F := Ideal) (k0_pay22 w) (k0_pay23 r w) (k0_pay24 r) = column (slabCodes r w) := rfl

/-- Level one of the lower slab stores that slab's codes. -/
theorem store_lower1 : k0_pay33 (F := Ideal) (k0_pay22 w) (k0_pay28 r (k0_pay21 w)) (k0_pay29 r) (k0_pay30 r) (k0_pay31 r)
    = column (slabCodes r w) := rfl

/-- Level two of the upper slab stores that slab's codes. -/
theorem store_upper2 : k0_pay44 (F := Ideal) (k0_pay39 w) (k0_pay40 r w) (k0_pay42 r) (k0_pay43 r) = column (slabCodes r w) := rfl

/-- Level two of the lower slab stores that slab's codes. -/
theorem store_lower2 : k0_pay1 (k0_pay45 (F := Ideal) r (k0_pay38 w) (k0_pay39 w)) = column (slabCodes r w) := rfl

/-- The upper slab's residual after level zero. -/
theorem next_upper0 : k0_pay14 (F := Ideal) (k0_pay4 v b2 W3 b3)
      (k0_pay13 (iota .tc S512x1024 32 [1] iota_S512x1024_d1_w32) (k0_pay7 w) (k0_pay8 v b2 W3 b3 w) (k0_pay9 v b2 W3 b3) (k0_pay10 v b2 W3 b3) hi mid lo)
    = slabNext (k0_pay4 v b2 W3 b3) w hi mid lo := rfl

/-- The lower slab's residual after level zero. -/
theorem next_lower0 : k0_pay20 (F := Ideal) r (k0_pay17 (iota .tc S512x1024 32 [1] iota_S512x1024_d1_w32) r (k0_pay6 w) (k0_pay7 w))
      (k0_pay18 (iota .tc S512x1024 32 [1] iota_S512x1024_d1_w32) r (k0_pay6 w) (k0_pay7 w) hi) (k0_pay19 mid) lo
    = slabNext r w hi mid lo := rfl

/-- The upper slab's residual after level one. -/
theorem next_upper1 : k0_pay27 (F := Ideal) (iota .tc S512x1024 32 [1] iota_S512x1024_d1_w32) r (k0_pay22 w) (k0_pay23 r w) (k0_pay24 r) hi mid lo
    = slabNext r w hi mid lo := rfl

/-- The lower slab's residual after level one. -/
theorem next_lower1 : k0_pay37 (F := Ideal) r
      (k0_pay34 (iota .tc S512x1024 32 [1] iota_S512x1024_d1_w32) (k0_pay22 w) (k0_pay28 r (k0_pay21 w)) (k0_pay29 r) (k0_pay30 r) (k0_pay31 r))
      (k0_pay35 (iota .tc S512x1024 32 [1] iota_S512x1024_d1_w32) (k0_pay22 w) (k0_pay28 r (k0_pay21 w)) (k0_pay29 r) (k0_pay30 r) (k0_pay31 r) hi mid)
      (k0_pay36 lo)
    = slabNext r w hi mid lo := rfl

end Names

/-! ## One level's step on a row -/

/-- A row at its residual before level `l` is stored as its code at that level. -/
theorem code_step {r : FVec Ideal S512x64 .f32} {w : FVec Ideal S1x64x1024 .f32} {z : Fin 64 → EReal} {cb : Fin 3 → Fin 1024 → Fin 64 → EReal}
    {l : Fin 3} (x : S512x1.Idx) (hr : mat r (x 0) = residual z cb l) (hw : words w = cb l) :
    column (slabCodes r w) x = BitVec.ofNat 32 (codes z cb l).val := by
  idx_vars x
  pointwise [slabCodes_at, hr, hw]
  rfl

/-- A row at its residual before a level is left at its residual before the next. -/
theorem next_step (l : Fin 2) {r : FVec Ideal S512x64 .f32} {w : FVec Ideal S1x64x1024 .f32} {hi mid lo : FVec Ideal S1x1024x64 .bf16}
    {z : Fin 64 → EReal} {cb : Fin 3 → Fin 1024 → Fin 64 → EReal} {p : Fin 512} (hr : mat r p = residual z cb l.castSucc) (hw : words w = cb l.castSucc)
    (hhi : ∀ k e, hi (ix3 0 k e) = words w k e) (hmid : ∀ k e, mid (ix3 0 k e) = (0 : EReal)) (hlo : ∀ k e, lo (ix3 0 k e) = (0 : EReal)) :
    mat (slabNext r w hi mid lo) p = residual z cb l.succ := by
  rw [slabNext_at r w hi mid lo hhi hmid hlo, hr, hw]
  fin_cases l <;> rfl

/-! ## The rows of the two slabs -/

section Rows

variable (x : FVec Ideal S1024x768 .f32) (W0 : FVec Ideal S768x512 .f32) (b0 : FVec Ideal S1x512 .f32) (W1 : FVec Ideal S512x256 .f32)
  (b1 : FVec Ideal S1x256 .f32) (W2 : FVec Ideal S256x128 .f32) (b2 : FVec Ideal S1x128 .f32) (W3 : FVec Ideal S128x64 .f32) (b3 : FVec Ideal S1x64 .f32)

/-- A row of a block, encoded. -/
abbrev encodeRow (q : Fin 1024) : Fin 64 → EReal :=
  encode (mat x q) (mat W0) (mat b0 0) (mat W1) (mat b1 0) (mat W2) (mat b2 0) (mat W3) (mat b3 0)

/-- Row `p` of the upper slab is the block's row `p`, encoded. -/
theorem upper_at (p : Fin 512) :
    mat (k0_pay4 (F := Ideal) (k0_pay2 x W0 b0 W1 b1 W2) b2 W3 b3) p = encodeRow x W0 b0 W1 b1 W2 b2 W3 b3 ⟨p.val, by omega⟩ := by
  funext e
  refine Eq.trans ?_ (encoder_at x W0 b0 W1 b1 W2 b2 W3 b3 ⟨p.val, by omega⟩ e)
  show k0_pay4 (F := Ideal) (k0_pay2 x W0 b0 W1 b1 W2) b2 W3 b3 (ix2 p e) = _
  generalize k0_pay2 (F := Ideal) x W0 b0 W1 b1 W2 = v
  unfold k0_pay4
  generalize k0_pay3 (F := Ideal) v b2 W3 b3 = u
  pointwise
  blk_ext

/-- Row `p` of the lower slab is the block's row `512 + p`, encoded. -/
theorem lower_at (p : Fin 512) :
    mat (k0_pay5 (F := Ideal) (k0_pay2 x W0 b0 W1 b1 W2) b2 W3 b3) p = encodeRow x W0 b0 W1 b1 W2 b2 W3 b3 ⟨512 + p.val, by omega⟩ := by
  funext e
  refine Eq.trans ?_ (encoder_at x W0 b0 W1 b1 W2 b2 W3 b3 ⟨512 + p.val, by omega⟩ e)
  show k0_pay5 (F := Ideal) (k0_pay2 x W0 b0 W1 b1 W2) b2 W3 b3 (ix2 p e) = _
  generalize k0_pay2 (F := Ideal) x W0 b0 W1 b1 W2 = v
  unfold k0_pay5
  generalize k0_pay3 (F := Ideal) v b2 W3 b3 = u
  pointwise
  blk_ext

end Rows

/-! ## What is stored -/

section Stored

variable (x0 : FVec Ideal S1024x768 .f32) (x1 : FVec Ideal S3x64x1024 .f32) (x2 x3 x4 : FVec Ideal S3x1024x64 .bf16)
  (x5 : FVec Ideal S768x512 .f32) (x6 : FVec Ideal S1x512 .f32) (x7 : FVec Ideal S512x256 .f32)
  (x8 : FVec Ideal S1x256 .f32) (x9 : FVec Ideal S256x128 .f32) (x10 : FVec Ideal S1x128 .f32) (x11 : FVec Ideal S128x64 .f32) (x12 : FVec Ideal S1x64 .f32)
  (hhi : ∀ l k e, x2 (ix3 l k e) = x1 (ix3 l e k)) (hmid : ∀ l k e, x3 (ix3 l k e) = (0 : EReal)) (hlo : ∀ l k e, x4 (ix3 l k e) = (0 : EReal))

/-- The codebooks held transposed. -/
abbrev books (l : Fin 3) (k : Fin 1024) (e : Fin 64) : EReal := x1 (ix3 l e k)

/-- The upper slab's rows before level zero. -/
theorem upper0 (p : Fin 512) :
    mat (k0_pay4 (F := Ideal) (k0_pay46 x0 x1 x2 x3 x4 x5 x6 x7 x8 x9 x10 x11 x12) (View.ld x10 r0_6) (View.ld x11 r0_7) (View.ld x12 r0_8)) p
      = residual (encodeRow x0 x5 x6 x7 x8 x9 x10 x11 x12 ⟨p.val, by omega⟩) (books x1) 0 := by
  unfold k0_pay46
  rw [upper_at]
  rw [View.ld_unit_zero (by decide), View.ld_unit_zero (by decide), View.ld_unit_zero (by decide), View.ld_unit_zero (by decide), View.ld_unit_zero (by decide),
    View.ld_unit_zero (by decide), View.ld_unit_zero (by decide), View.ld_unit_zero (by decide), View.ld_unit_zero (by decide)]
  rfl

/-- The lower slab's rows before level zero. -/
theorem lower0 (p : Fin 512) :
    mat (k0_pay48 (F := Ideal) x0 x1 x2 x3 x4 x5 x6 x7 x8 x9 x10 x11 x12) p = residual (encodeRow x0 x5 x6 x7 x8 x9 x10 x11 x12 ⟨512 + p.val, by omega⟩) (books x1) 0 := by
  unfold k0_pay48 k0_pay46
  rw [lower_at]
  rw [View.ld_unit_zero (by decide), View.ld_unit_zero (by decide), View.ld_unit_zero (by decide), View.ld_unit_zero (by decide), View.ld_unit_zero (by decide),
    View.ld_unit_zero (by decide), View.ld_unit_zero (by decide), View.ld_unit_zero (by decide), View.ld_unit_zero (by decide)]
  rfl

include hhi hmid hlo

/-- The upper slab's rows before level one. -/
theorem upper1 (p : Fin 512) :
    mat (k0_pay54 (F := Ideal) x0 x1 x2 x3 x4 x5 x6 x7 x8 x9 x10 x11 x12) p = residual (encodeRow x0 x5 x6 x7 x8 x9 x10 x11 x12 ⟨p.val, by omega⟩) (books x1) 1 := by
  unfold k0_pay54 k0_pay47 k0_pay50 k0_pay51 k0_pay52 k0_pay53
  rw [next_upper0]
  refine next_step 0 (upper0 x0 x1 x2 x3 x4 x5 x6 x7 x8 x9 x10 x11 x12 p) ?_ ?_ ?_ ?_
  · funext k e
    pointwise [words]
    rfl
  all_goals
    intro k e
    pointwise [words, hhi, hmid, hlo]

/-- The lower slab's rows before level one. -/
theorem lower1 (p : Fin 512) :
    mat (k0_pay55 (F := Ideal) x0 x1 x2 x3 x4 x5 x6 x7 x8 x9 x10 x11 x12) p = residual (encodeRow x0 x5 x6 x7 x8 x9 x10 x11 x12 ⟨512 + p.val, by omega⟩) (books x1) 1 := by
  unfold k0_pay55 k0_pay47 k0_pay49 k0_pay50
  rw [next_lower0]
  refine next_step 0 (lower0 x0 x1 x2 x3 x4 x5 x6 x7 x8 x9 x10 x11 x12 p) ?_ ?_ ?_ ?_
  · funext k e
    pointwise [words]
    rfl
  all_goals
    intro k e
    pointwise [words, hhi, hmid, hlo]

/-- The upper slab's rows before level two. -/
theorem upper2 (p : Fin 512) :
    mat (k0_pay59 (F := Ideal) x0 x1 x2 x3 x4 x5 x6 x7 x8 x9 x10 x11 x12) p = residual (encodeRow x0 x5 x6 x7 x8 x9 x10 x11 x12 ⟨p.val, by omega⟩) (books x1) 2 := by
  unfold k0_pay59 k0_pay47 k0_pay56 k0_pay57 k0_pay58
  rw [next_upper1]
  refine next_step 1 (upper1 x0 x1 x2 x3 x4 x5 x6 x7 x8 x9 x10 x11 x12 hhi hmid hlo p) ?_ ?_ ?_ ?_
  · funext k e
    pointwise [words]
    rfl
  all_goals
    intro k e
    pointwise [words, hhi, hmid, hlo]

/-- Each stored entry is its row's code at its level. -/
theorem stored (q : Fin 1024) (l : Fin 3) :
    out0_13 (F := Ideal) x0 x1 x2 x3 x4 x5 x6 x7 x8 x9 x10 x11 x12 (ix2 q l) = BitVec.ofNat 32 (codes (encodeRow x0 x5 x6 x7 x8 x9 x10 x11 x12 q) (books x1) l).val := by
  unfold out0_13
  canon_tiles x h
  · rw [show q = ⟨512 + (x 0).val, by omega⟩ from Fin.ext h0, show l = 2 from Fin.ext (h1.trans (by simp))]
    unfold k0_pay64 k0_pay47 k0_pay56 k0_pay60 k0_pay61 k0_pay62 k0_pay63
    rw [next_lower1, store_lower2]
    refine code_step x (next_step 1 (lower1 x0 x1 x2 x3 x4 x5 x6 x7 x8 x9 x10 x11 x12 hhi hmid hlo (x 0)) ?_ ?_ ?_ ?_) (by funext k e; pointwise [words])
    · funext k e
      pointwise [words]
      rfl
    all_goals
      intro k e
      pointwise [words, hhi, hmid, hlo]
  · rw [show q = ⟨(x 0).val, by omega⟩ from Fin.ext h0, show l = 2 from Fin.ext (h1.trans (by simp))]
    unfold k0_pay64
    rw [store_upper2]
    exact code_step x (upper2 x0 x1 x2 x3 x4 x5 x6 x7 x8 x9 x10 x11 x12 hhi hmid hlo (x 0)) (by funext k e; pointwise [words])
  · rw [show q = ⟨512 + (x 0).val, by omega⟩ from Fin.ext h0, show l = 1 from Fin.ext (h1.trans (by simp))]
    unfold k0_pay56 k0_pay60 k0_pay61 k0_pay62 k0_pay63
    rw [store_lower1]
    exact code_step x (lower1 x0 x1 x2 x3 x4 x5 x6 x7 x8 x9 x10 x11 x12 hhi hmid hlo (x 0)) (by funext k e; pointwise [words])
  · rw [show q = ⟨(x 0).val, by omega⟩ from Fin.ext h0, show l = 1 from Fin.ext (h1.trans (by simp))]
    unfold k0_pay56 k0_pay57 k0_pay58
    rw [store_upper1]
    exact code_step x (upper1 x0 x1 x2 x3 x4 x5 x6 x7 x8 x9 x10 x11 x12 hhi hmid hlo (x 0)) (by funext k e; pointwise [words])
  · rw [show q = ⟨512 + (x 0).val, by omega⟩ from Fin.ext h0, show l = 0 from Fin.ext (h1.trans (by simp))]
    unfold k0_pay49 k0_pay50
    rw [store_lower0]
    exact code_step x (lower0 x0 x1 x2 x3 x4 x5 x6 x7 x8 x9 x10 x11 x12 (x 0)) (by funext k e; pointwise [words])
  · rw [show q = ⟨(x 0).val, by omega⟩ from Fin.ext h0, show l = 0 from Fin.ext (h1.trans (by simp))]
    unfold k0_pay50 k0_pay51 k0_pay52 k0_pay53
    rw [store_upper0]
    exact code_step x (upper0 x0 x1 x2 x3 x4 x5 x6 x7 x8 x9 x10 x11 x12 (x 0)) (by funext k e; pointwise [words])

end Stored

end Cert.KernelIdeal.Block

end
-- ==== Proof.Value.lean ====
/- What the kernel's region leaves in its result: the entry of a token at a level is that token's code at that level. -/
module

public import proofs.«01_k».proof.Proof.Gen.KernelIdeal.Run
public import proofs.«01_k».proof.Proof.Stores
public import Idealize.ShloMosaic.Lib.Pipeline.ValueKit

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem Cert.Rvq
open Idealize.ShloMosaic.Pipeline (Dat)

variable (m : (ℓ : Loc nD τ sig) → Buf (Elt Ideal) ℓ) (c : Dev nD)

/-- Each window's block at a point: window 0 and the result step through the rows, the rest are whole arrays. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] :=
  (by decide +kernel : ∀ t : Fin grid0.N, _)

/-! ## The operands computed before the region -/

/-- The codebooks' high part: the codebooks rounded. -/
def high (cb : FVec Ideal S3x1024x64 .f32) : FVec Ideal S3x1024x64 .bf16 := truncf .bf16 cb bitsLt_bf16_f32

/-- What the high part leaves of the codebooks. -/
def rest (cb : FVec Ideal S3x1024x64 .f32) : FVec Ideal S3x1024x64 .f32 := subf cb (extf .f32 (high cb) bitsLt_bf16_f32)

/-- The codebooks' middle part. -/
def middle (cb : FVec Ideal S3x1024x64 .f32) : FVec Ideal S3x1024x64 .bf16 := truncf .bf16 (rest cb) bitsLt_bf16_f32

/-- The codebooks' low part. -/
def low (cb : FVec Ideal S3x1024x64 .f32) : FVec Ideal S3x1024x64 .bf16 :=
  truncf .bf16 (subf (rest cb) (extf .f32 (middle cb) bitsLt_bf16_f32)) bitsLt_bf16_f32

/-- The tokens as the rows of one matrix. -/
theorem V_main_v0 : V m c main_v0 = shapeCast S8192x768 (m ((c.tc : Thread nD τ).loc main_arg0)) shapeCasts_S64x128x768_S8192x768 := by
  unfold V V0
  simp only [Gen.hostOps0, List.flatten_cons, List.flatten_nil, List.append_nil, List.cons_append, List.nil_append]
  after_results <;> rfl

/-- The codebooks transposed. -/
theorem V_main_v1 : V m c main_v1 = transpose S3x64x1024 [0, 2, 1] (m ((c.tc : Thread nD τ).loc main_arg4)) transposes_S3x1024x64_S3x64x1024_0_2_1 := by
  unfold V V0
  simp only [Gen.hostOps0, List.flatten_cons, List.flatten_nil, List.append_nil, List.cons_append, List.nil_append]
  after_results <;> rfl

/-- The codebooks' high part. -/
theorem V_main_v2 : V m c main_v2 = high (m ((c.tc : Thread nD τ).loc main_arg4)) := by
  unfold V V0
  simp only [Gen.hostOps0, List.flatten_cons, List.flatten_nil, List.append_nil, List.cons_append, List.nil_append]
  after_results <;> rfl

/-- The codebooks' middle part. -/
theorem V_main_v5 : V m c main_v5 = middle (m ((c.tc : Thread nD τ).loc main_arg4)) := by
  unfold V V0
  simp only [Gen.hostOps0, List.flatten_cons, List.flatten_nil, List.append_nil, List.cons_append, List.nil_append]
  after_results <;> rfl

/-- The codebooks' low part. -/
theorem V_main_v8 : V m c main_v8 = low (m ((c.tc : Thread nD τ).loc main_arg4)) := by
  unfold V V0
  simp only [Gen.hostOps0, List.flatten_cons, List.flatten_nil, List.append_nil, List.cons_append, List.nil_append]
  after_results <;> rfl

/-- The first bias as a row. -/
theorem V_main_v9 : V m c main_v9 = shapeCast S1x512 (m ((c.tc : Thread nD τ).loc main_arg6)) shapeCasts_S512_S1x512 := by
  unfold V V0
  simp only [Gen.hostOps0, List.flatten_cons, List.flatten_nil, List.append_nil, List.cons_append, List.nil_append]
  after_results <;> rfl

/-- The second bias as a row. -/
theorem V_main_v10 : V m c main_v10 = shapeCast S1x256 (m ((c.tc : Thread nD τ).loc main_arg8)) shapeCasts_S256_S1x256 := by
  unfold V V0
  simp only [Gen.hostOps0, List.flatten_cons, List.flatten_nil, List.append_nil, List.cons_append, List.nil_append]
  after_results <;> rfl

/-- The third bias as a row. -/
theorem V_main_v11 : V m c main_v11 = shapeCast S1x128 (m ((c.tc : Thread nD τ).loc main_arg10)) shapeCasts_S128_S1x128 := by
  unfold V V0
  simp only [Gen.hostOps0, List.flatten_cons, List.flatten_nil, List.append_nil, List.cons_append, List.nil_append]
  after_results <;> rfl

/-- The fourth bias as a row. -/
theorem V_main_v12 : V m c main_v12 = shapeCast S1x64 (m ((c.tc : Thread nD τ).loc main_arg12)) shapeCasts_S64_S1x64 := by
  unfold V V0
  simp only [Gen.hostOps0, List.flatten_cons, List.flatten_nil, List.append_nil, List.cons_append, List.nil_append]
  after_results <;> rfl

/-- The high part holds the codebooks. -/
theorem high_at (cb : FVec Ideal S3x1024x64 .f32) (l : Fin 3) (k : Fin 1024) (e : Fin 64) : high cb (ix3 l k e) = cb (ix3 l k e) := by
  pointwise [high]

/-- The middle part of finite codebooks is zero. -/
theorem middle_at (cb : FVec Ideal S3x1024x64 .f32) (h : ∀ l k e, book cb l k e ≠ ⊤ ∧ book cb l k e ≠ ⊥) (l : Fin 3) (k : Fin 1024) (e : Fin 64) :
    middle cb (ix3 l k e) = (0 : EReal) := by
  pointwise [middle, rest, high]
  exact EReal.sub_self (h l k e).1 (h l k e).2

/-- The low part of finite codebooks is zero. -/
theorem low_at (cb : FVec Ideal S3x1024x64 .f32) (h : ∀ l k e, book cb l k e ≠ ⊤ ∧ book cb l k e ≠ ⊥) (l : Fin 3) (k : Fin 1024) (e : Fin 64) :
    low cb (ix3 l k e) = (0 : EReal) := by
  pointwise [low, middle, rest, high]
  erw [EReal.sub_self (h l k e).1 (h l k e).2]
  exact sub_zero (0 : EReal)

/-- A row of the matrix of tokens is a token. -/
theorem rows_at (x : FVec Ideal S64x128x768 .f32) (p : Fin 8192) (e : Fin 768) :
    shapeCast S8192x768 x shapeCasts_S64x128x768_S8192x768 (ix2 p e) = token x p e := by
  pointwise! [token]

/-! ## The windows' blocks -/

/-- A block's row is a token. -/
theorem iblk0 (t : Fin cfg0.N) (q : Fin 1024) (h : t.val * 1024 + q.val < 8192) :
    mat (iblk m c 0 t : FVec Ideal S1024x768 .f32) q = token (m ((c.tc : Thread nD τ).loc main_arg0)) ⟨t.val * 1024 + q.val, h⟩ := by
  funext e
  show (iblk m c 0 t : FVec Ideal S1024x768 .f32) (ix2 q e) = _
  refine (?_ : _ = (V m c main_v0 : FVec Ideal S8192x768 .f32) (ix2 ⟨t.val * 1024 + q.val, h⟩ e)).trans ?_
  · blk_ext! [iblk, idx t]
  · rw [V_main_v0]
    exact rows_at _ _ e

/-- Window 1 holds the codebooks transposed. -/
theorem iblk1 (t : Fin cfg0.N) : books (iblk m c 1 t : FVec Ideal S3x64x1024 .f32) = book (m ((c.tc : Thread nD τ).loc main_arg4)) := by
  have h : (iblk m c 1 t : FVec Ideal S3x64x1024 .f32) = V m c main_v1 := by blk_ext! [iblk, idx t]
  rw [h, V_main_v1]
  funext l k e
  unfold books
  pointwise [book]

/-- Window 2 holds the codebooks' high part. -/
theorem iblk2 (t : Fin cfg0.N) : (iblk m c 2 t : FVec Ideal S3x1024x64 .bf16) = high (m ((c.tc : Thread nD τ).loc main_arg4)) := by
  rw [← V_main_v2]
  blk_ext! [iblk, idx t]

/-- Window 3 holds the codebooks' middle part. -/
theorem iblk3 (t : Fin cfg0.N) : (iblk m c 3 t : FVec Ideal S3x1024x64 .bf16) = middle (m ((c.tc : Thread nD τ).loc main_arg4)) := by
  rw [← V_main_v5]
  blk_ext! [iblk, idx t]

/-- Window 4 holds the codebooks' low part. -/
theorem iblk4 (t : Fin cfg0.N) : (iblk m c 4 t : FVec Ideal S3x1024x64 .bf16) = low (m ((c.tc : Thread nD τ).loc main_arg4)) := by
  rw [← V_main_v8]
  blk_ext! [iblk, idx t]

/-- Window 5 holds a weight matrix whole. -/
theorem iblk5 (t : Fin cfg0.N) : (iblk m c 5 t : FVec Ideal S768x512 .f32) = (m ((c.tc : Thread nD τ).loc main_arg5)) := by
  rw [← V_main_arg5 m c]
  blk_ext! [iblk, idx t]

/-- Window 6 holds a bias as its one row. -/
theorem iblk6 (t : Fin cfg0.N) : mat (iblk m c 6 t : FVec Ideal S1x512 .f32) 0 = vec (m ((c.tc : Thread nD τ).loc main_arg6)) := by
  have h : (iblk m c 6 t : FVec Ideal S1x512 .f32) = V m c main_v9 := by blk_ext! [iblk, idx t]
  rw [h, V_main_v9]
  funext e
  unfold mat
  pointwise

/-- Window 7 holds a weight matrix whole. -/
theorem iblk7 (t : Fin cfg0.N) : (iblk m c 7 t : FVec Ideal S512x256 .f32) = (m ((c.tc : Thread nD τ).loc main_arg7)) := by
  rw [← V_main_arg7 m c]
  blk_ext! [iblk, idx t]

/-- Window 8 holds a bias as its one row. -/
theorem iblk8 (t : Fin cfg0.N) : mat (iblk m c 8 t : FVec Ideal S1x256 .f32) 0 = vec (m ((c.tc : Thread nD τ).loc main_arg8)) := by
  have h : (iblk m c 8 t : FVec Ideal S1x256 .f32) = V m c main_v10 := by blk_ext! [iblk, idx t]
  rw [h, V_main_v10]
  funext e
  unfold mat
  pointwise

/-- Window 9 holds a weight matrix whole. -/
theorem iblk9 (t : Fin cfg0.N) : (iblk m c 9 t : FVec Ideal S256x128 .f32) = (m ((c.tc : Thread nD τ).loc main_arg9)) := by
  rw [← V_main_arg9 m c]
  blk_ext! [iblk, idx t]

/-- Window 10 holds a bias as its one row. -/
theorem iblk10 (t : Fin cfg0.N) : mat (iblk m c 10 t : FVec Ideal S1x128 .f32) 0 = vec (m ((c.tc : Thread nD τ).loc main_arg10)) := by
  have h : (iblk m c 10 t : FVec Ideal S1x128 .f32) = V m c main_v11 := by blk_ext! [iblk, idx t]
  rw [h, V_main_v11]
  funext e
  unfold mat
  pointwise

/-- Window 11 holds a weight matrix whole. -/
theorem iblk11 (t : Fin cfg0.N) : (iblk m c 11 t : FVec Ideal S128x64 .f32) = (m ((c.tc : Thread nD τ).loc main_arg11)) := by
  rw [← V_main_arg11 m c]
  blk_ext! [iblk, idx t]

/-- Window 12 holds a bias as its one row. -/
theorem iblk12 (t : Fin cfg0.N) : mat (iblk m c 12 t : FVec Ideal S1x64 .f32) 0 = vec (m ((c.tc : Thread nD τ).loc main_arg12)) := by
  have h : (iblk m c 12 t : FVec Ideal S1x64 .f32) = V m c main_v12 := by blk_ext! [iblk, idx t]
  rw [h, V_main_v12]
  funext e
  unfold mat
  pointwise

/-! ## The region's result -/

/-- A token, encoded. -/
def encodedAt (p : Fin 8192) : Fin 64 → EReal :=
  encode (token (m ((c.tc : Thread nD τ).loc main_arg0)) p) (mat (m ((c.tc : Thread nD τ).loc main_arg5))) (vec (m ((c.tc : Thread nD τ).loc main_arg6))) (mat (m ((c.tc : Thread nD τ).loc main_arg7))) (vec (m ((c.tc : Thread nD τ).loc main_arg8))) (mat (m ((c.tc : Thread nD τ).loc main_arg9))) (vec (m ((c.tc : Thread nD τ).loc main_arg10)))
    (mat (m ((c.tc : Thread nD τ).loc main_arg11))) (vec (m ((c.tc : Thread nD τ).loc main_arg12)))

/-- The codes of the tokens. -/
def region : IVec S8192x3 32 := fun i => BitVec.ofNat 32 (codes (encodedAt m c (i 0)) (book (m ((c.tc : Thread nD τ).loc main_arg4))) (i 1)).val

/-- A block's rows, encoded. -/
theorem encodeRow_at (t : Fin cfg0.N) (q : Fin 1024) (h : t.val * 1024 + q.val < 8192) :
    encodeRow (iblk m c 0 t : FVec Ideal S1024x768 .f32) (iblk m c 5 t) (iblk m c 6 t) (iblk m c 7 t) (iblk m c 8 t) (iblk m c 9 t) (iblk m c 10 t) (iblk m c 11 t)
      (iblk m c 12 t) q = encodedAt m c ⟨t.val * 1024 + q.val, h⟩ := by
  unfold encodeRow encodedAt
  rw [iblk0 m c t q h, iblk5, iblk6, iblk7, iblk8, iblk9, iblk10, iblk11, iblk12]

/-- What a point leaves in the result's block. -/
theorem point (hfin : ∀ l k e, book (m ((c.tc : Thread nD τ).loc main_arg4)) l k e ≠ ⊤ ∧ book (m ((c.tc : Thread nD τ).loc main_arg4)) l k e ≠ ⊥) (t : Fin cfg0.N) (q : Fin 1024) (l : Fin 3) (h : t.val * 1024 + q.val < 8192) :
    out0_13 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 q l)
    = region m c (ix2 ⟨t.val * 1024 + q.val, h⟩ l) := by
  refine (stored _ _ _ _ _ _ _ _ _ _ _ _ _ ?_ ?_ ?_ q l).trans ?_
  · intro l k e
    refine (congrFun (iblk2 m c t) _).trans ((high_at _ l k e).trans ?_)
    exact (congrFun (congrFun (congrFun (iblk1 m c t) l) k) e).symm
  · exact fun l k e => (congrFun (iblk3 m c t) _).trans (middle_at _ hfin l k e)
  · exact fun l k e => (congrFun (iblk4 m c t) _).trans (low_at _ hfin l k e)
  · rw [encodeRow_at m c t q h, iblk1]
    rfl

/-- The region's result is the tokens' codes. -/
theorem final (hfin : ∀ l k e, book (m ((c.tc : Thread nD τ).loc main_arg4)) l k e ≠ ⊤ ∧ book (m ((c.tc : Thread nD τ).loc main_arg4)) l k e ≠ ⊥) : reg_main_v13 m c = region m c := by
  unfold reg_main_v13
  refine (dats m 0 c).arrAt_eq_of_covers 13 _ (by decide +kernel) fun t _ y => ?_
  blk_simp
  rw [after0_13]
  have ht : t.val < 8 := t.isLt
  idx_vars y
  refine (point m c hfin t y0 y1 (by omega)).trans ?_
  blk_ext [idx t]

/-- The codes laid out in rows of 384: token `j / 3` of sequence `s` at level `j % 3`. -/
theorem laid_out (s : Fin 64) (j : Fin 384) :
    shapeCast S64x384 (region m c) shapeCasts_S8192x3_S64x384 (ix2 s j)
      = region m c (ix2 ⟨s.val * 128 + j.val / 3, by omega⟩ ⟨j.val % 3, by omega⟩) := by
  generalize region m c = r
  pointwise
  blk_ext

end Cert.KernelIdeal.Value

end
-- ==== Proof.RefValue.lean ====
/- The reference's arrays read at an index: its encoder, distances, nearest codewords, residuals and codes are those of
   Spec.lean. -/
module

public import proofs.«01_k».proof.Proof.RefRun
public import proofs.«01_k».proof.Proof.Spec
public import Idealize.ShloMosaic.Lib.Routing.Ops
public import Idealize.ShloMosaic.Lib.Pointwise.IndexBridge

@[expose] public section

set_option maxRecDepth 16384

noncomputable section

namespace Cert.ReferenceIdeal.Host

open Cert.ReferenceIdeal Cert.ReferenceIdeal.Gen Idealize.ShloMosaic Idealize.ShloMosaic.TcCoe Idealize.SL.Sem Cert.Rvq

/-- The encoded rows are the encoded tokens. -/
theorem encA_at (x : FVec Ideal S64x128x768 .f32) (W0 : FVec Ideal S768x512 .f32) (b0 : FVec Ideal S512 .f32) (W1 : FVec Ideal S512x256 .f32)
    (b1 : FVec Ideal S256 .f32) (W2 : FVec Ideal S256x128 .f32) (b2 : FVec Ideal S128 .f32) (W3 : FVec Ideal S128x64 .f32) (b3 : FVec Ideal S64 .f32)
    (p : Fin 8192) (e : Fin 64) :
    encA (F := Ideal) x W0 b0 W1 b1 W2 b2 W3 b3 (ix2 p e)
      = encode (token x p) (mat W0) (vec b0) (mat W1) (vec b1) (mat W2) (vec b2) (mat W3) (vec b3) e := by
  pointwise! [encA, encode, dense, layer, token]

/-- A level's codebook is that slice of the stacked ones. -/
theorem book0_at (cbs : FVec Ideal S3x1024x64 .f32) (k : Fin 1024) (e : Fin 64) : book0 (F := Ideal) cbs (ix2 k e) = book cbs 0 k e := by
  pointwise! [book0, bookA, book]
@[inherit_doc book0_at]
theorem book1_at (cbs : FVec Ideal S3x1024x64 .f32) (k : Fin 1024) (e : Fin 64) : book1 (F := Ideal) cbs (ix2 k e) = book cbs 1 k e := by
  pointwise! [book1, bookA, book]
@[inherit_doc book0_at]
theorem book2_at (cbs : FVec Ideal S3x1024x64 .f32) (k : Fin 1024) (e : Fin 64) : book2 (F := Ideal) cbs (ix2 k e) = book cbs 2 k e := by
  pointwise! [book2, bookA, book]

/-- The distances. -/
theorem distA_at (r : FVec Ideal S8192x64 .f32) (cb : FVec Ideal S1024x64 .f32) (p : Fin 8192) (k : Fin 1024) :
    distA (F := Ideal) r cb (ix2 p k) = Rvq.dist (mat r p) (mat cb) k := by
  pointwise [distA, crossA, normsA, Rvq.dist]

/-- The arg-min's step keeps the smaller value, and at equal values the smaller position. -/
theorem reducer_keepsLeast : KeepsLeast (reducer_argmin_f32_i32 (F := Ideal)) := by
  intro v w i j hi hj
  have hs : (BitVec.ofNat 32 i).slt (BitVec.ofNat 32 j) = decide (i < j) := by
    rw [BitVec.slt_eq_decide, BitVec.toInt_eq_toNat_of_lt (by simp; omega), BitVec.toInt_eq_toNat_of_lt (by simp; omega)]
    simp [Nat.mod_eq_of_lt (show i < 4294967296 by omega), Nat.mod_eq_of_lt (show j < 4294967296 by omega)]
  unfold reducer_argmin_f32_i32
  simp only [Ideal.cmpf_def, Ideal.cmp, IntOp.cmpi, hs]
  by_cases h1 : v < w <;> by_cases h2 : v = w <;> by_cases h3 : i < j <;> simp [h1, h2, h3, Scalar.select, IntOp.ori, IntOp.andi]

/-- The arg-min starts from the greatest value. -/
theorem first_top (j : S_.Idx) : (constant (F := Ideal) S_ .f32 0x7F800000#32) j = (⊤ : EReal) := by
  pointwise
  simp [Ideal.ofBits, Ideal.ieee]

/-- A row's least distance is at its first least position. -/
theorem leastA_at (d : FVec Ideal S8192x1024 .f32) (p : Fin 8192) : ∃ v, leastA (F := Ideal) d (ix1 p) = (v, BitVec.ofNat 32 (pick (mat d p)).val) := by
  have h := argReduce_row reducer_keepsLeast reducesTo_S8192x1024_S8192_d1 h_S_ d (iotaInDim S8192x1024 32 1) (fun q k => by pointwise)
    (constant (F := Ideal) S_ .f32 0x7F800000#32) first_top (constantI S_ 32 0#32) (fun j => rfl) p
  unfold leastA
  exact h

/-- A pair's second half. -/
theorem secondA_at (f : S8192.Idx → Ideal .f32 × BitVec 32) (j : S8192.Idx) (v : Ideal .f32) (n : BitVec 32) (h : f j = (v, n)) :
    secondA (F := Ideal) f j = n := by
  unfold secondA
  rw [h]

/-- The positions the reference picks. -/
theorem pickA_at (d : FVec Ideal S8192x1024 .f32) (p : Fin 8192) :
    pickA (F := Ideal) d (ix1 p) = BitVec.ofNat 32 (pick (mat d p)).val := by
  obtain ⟨v, h⟩ := leastA_at d p
  unfold pickA
  exact secondA_at _ _ v _ h

/-- A position is not negative, and is below the codebook's length. -/
theorem position_in {b : ℕ} (hb : b < 1024) : (BitVec.ofNat 32 b).slt 0#32 = false ∧ (0#32).sle (BitVec.ofNat 32 b) = true
    ∧ (BitVec.ofNat 32 b).sle 1023#32 = true := by
  have h : (BitVec.ofNat 32 b).toInt = b := by
    rw [BitVec.toInt_eq_toNat_of_lt (by simp; omega)]
    simp; omega
  rw [BitVec.slt_eq_decide, BitVec.sle_eq_decide, BitVec.sle_eq_decide, h]
  simp
  omega

/-- A position below the codebook's length takes its codeword. -/
theorem takeA_at (cb : FVec Ideal S1024x64 .f32) (i : IVec S8192 32) (p : Fin 8192) (b : Fin 1024) (hb : i (ix1 p) = BitVec.ofNat 32 b.val) (e : Fin 64) :
    takeA (F := Ideal) cb i (ix2 p e) = cb (ix2 b e) := by
  have hw : wrapA (F := Ideal) i (ix2 p (0 : Fin 1)) = BitVec.ofNat 32 b.val := by
    pointwise [wrapA, hb]
    simp [IntOp.cmpi, (position_in b.isLt).1, Scalar.select]
  have hg : Host.gather gather_S1024x64_S8192x1_S8192x64_1_0_n_n_0_1_164 cb (wrapA (F := Ideal) i) (ix2 p e) = cb (ix2 b e) := by
    rw [ix2_eq_valueIdx, ix2_eq_valueIdx]
    exact Routing.gather_row _ rfl rfl rfl rfl rfl cb _ p e b (by rw [← ix2_eq_valueIdx]; exact hw) (by norm_num)
  have hin : inBookA (F := Ideal) (wrapA (F := Ideal) i) (ix1 p) = 1#1 := by
    pointwise [inBookA]
    rw [Finset.univ_unique, Finset.fold_singleton]
    show IntOp.andi (IntOp.andi (IntOp.cmpi .sge (wrapA (F := Ideal) i (ix2 p (0 : Fin 1))) 0#32)
      (IntOp.cmpi .sle (wrapA (F := Ideal) i (ix2 p (0 : Fin 1))) 1023#32)) 1#1 = 1#1
    rw [hw]
    simp [IntOp.cmpi, position_in b.isLt, IntOp.andi]
  unfold takeA
  pointwise [hin]
  exact hg

/-- The residual after a level. -/
theorem nextA_at (r : FVec Ideal S8192x64 .f32) (cb : FVec Ideal S1024x64 .f32) (p : Fin 8192) :
    mat (nextA (F := Ideal) r cb) p = Rvq.next (mat r p) (mat cb) := by
  funext e
  have h := takeA_at cb (pickA (F := Ideal) (distA (F := Ideal) r cb)) p (code (mat r p) (mat cb)) (by
    rw [pickA_at]
    exact congrArg (fun d => BitVec.ofNat 32 (pick d).val) (funext fun k => distA_at r cb p k)) e
  show nextA (F := Ideal) r cb (ix2 p e) = _
  unfold nextA
  pointwise [h, Rvq.next]

/-- A choice among three columns by the level, as a concatenation makes it. -/
theorem level_ladder (f : Fin 3 → Fin 1024) (l : ℕ) (hl : l < 3) :
    (if h : l < 1 then BitVec.ofNat 32 (f 0).val else if h : l - 1 < 1 then BitVec.ofNat 32 (f 1).val else BitVec.ofNat 32 (f 2).val)
      = BitVec.ofNat 32 (f ⟨l, hl⟩).val := by
  obtain rfl | rfl | rfl : l = 0 ∨ l = 1 ∨ l = 2 := by omega
  all_goals rfl

/-- The reference's codes: sequence `s`, token `j / 3`, level `j % 3`. -/
theorem rvqA_at (z : FVec Ideal S8192x64 .f32) (cbs : FVec Ideal S3x1024x64 .f32) (s : Fin 64) (j : Fin 384) :
    rvqA (F := Ideal) z cbs (ix2 s j)
      = BitVec.ofNat 32 (codes (mat z ⟨s.val * 128 + j.val / 3, by omega⟩) (book cbs) ⟨j.val % 3, by omega⟩).val := by
  have hb0 : mat (book0 (F := Ideal) cbs) = book cbs 0 := funext fun k => funext fun e => book0_at cbs k e
  have hb1 : mat (book1 (F := Ideal) cbs) = book cbs 1 := funext fun k => funext fun e => book1_at cbs k e
  have hb2 : mat (book2 (F := Ideal) cbs) = book cbs 2 := funext fun k => funext fun e => book2_at cbs k e
  have hp : ∀ (r : FVec Ideal S8192x64 .f32) (cb : FVec Ideal S1024x64 .f32) (p : Fin 8192),
      pickA (F := Ideal) (distA (F := Ideal) r cb) (ix1 p) = BitVec.ofNat 32 (code (mat r p) (mat cb)).val := fun r cb p => by
    rw [pickA_at]
    exact congrArg (fun d => BitVec.ofNat 32 (pick d).val) (funext fun k => distA_at r cb p k)
  unfold rvqA codesA columns
  pointwise
  simp only [hp, hb0, hb1, hb2, nextA_at]
  exact level_ladder (codes (mat z ⟨s.val * 128 + j.val / 3, by omega⟩) (book cbs)) (j.val % 3) (by omega)

end Cert.ReferenceIdeal.Host

end
-- ==== Proof.Equal.lean ====
/- The kernel's codes and the reference's are the same words, where the codebooks are finite. -/
module

public import proofs.«01_k».proof.Proof.Value
public import proofs.«01_k».proof.Proof.RefValue

@[expose] public section

set_option maxRecDepth 16384

noncomputable section

namespace Cert.Equal

open Cert.KernelIdeal Cert.KernelIdeal.Gen Idealize.ShloMosaic Idealize.ShloMosaic.TcCoe Idealize.SL.Sem Cert.Rvq

variable (m : (ℓ : Loc nD τ sig) → Buf (Elt Ideal) ℓ) (c : Dev nD)

/-- The reference's codes of the arguments the kernel's memory holds. -/
def refCodes : IVec S64x384 32 :=
  Cert.ReferenceIdeal.Host.rvqA (F := Ideal)
    (Cert.ReferenceIdeal.Host.encA (F := Ideal) (m ((c.tc : Thread nD τ).loc main_arg0)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)))
    (m ((c.tc : Thread nD τ).loc main_arg4))

/-- The reference's code of token `j / 3` of sequence `s` at level `j % 3`. -/
theorem refCodes_at (s : Fin 64) (j : Fin 384) :
    refCodes m c (ix2 s j) = Value.region m c (ix2 ⟨s.val * 128 + j.val / 3, by omega⟩ ⟨j.val % 3, by omega⟩) := by
  unfold refCodes
  refine (Cert.ReferenceIdeal.Host.rvqA_at _ _ s j).trans ?_
  refine congrArg (fun z => BitVec.ofNat 32 (codes z (book (m ((c.tc : Thread nD τ).loc main_arg4))) ⟨j.val % 3, by omega⟩).val) ?_
  exact funext fun e => Cert.ReferenceIdeal.Host.encA_at _ _ _ _ _ _ _ _ _ _ e

/-- The kernel's codes are the reference's. -/
theorem codes_eq (hfin : ∀ l k e, book (m ((c.tc : Thread nD τ).loc main_arg4)) l k e ≠ ⊤ ∧ book (m ((c.tc : Thread nD τ).loc main_arg4)) l k e ≠ ⊥) :
    shapeCast S64x384 (Value.reg_main_v13 m c) shapeCasts_S8192x3_S64x384 = refCodes m c := by
  rw [Value.final m c hfin]
  funext i
  idx_vars i
  exact (Value.laid_out m c _ _).trans (refCodes_at m c _ _).symm

end Cert.Equal

end
-- ==== Proof.lean ====
module

public import proofs.«01_k».proof.Proof.Gen.KernelIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.RefRun
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem

section Reference

open Cert.ReferenceIdeal Cert.ReferenceIdeal.Host Idealize.ShloMosaic.StableHlo

/-- The reference leaves every argument as it was. -/
theorem args_kept (m : (ℓ : Loc nD τ sig) → Buf (Elt Ideal) ℓ) (c : Dev nD) (mem : (ℓ : Loc nD τ sig) → Buf (Elt Ideal) ℓ)
    (h : ∀ (c : Dev nD) (b : Ref sig .tc), mem ((c.tc : Thread nD τ).loc b) = after allOps (launchContents m c) (Proc.devRef .tc b)) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12) :=
  ⟨(h c main_arg0).trans (arg_keep _ _ (by decide)),
   (h c main_arg1).trans (arg_keep _ _ (by decide)),
   (h c main_arg2).trans (arg_keep _ _ (by decide)),
   (h c main_arg3).trans (arg_keep _ _ (by decide)),
   (h c main_arg4).trans (arg_keep _ _ (by decide)),
   (h c main_arg5).trans (arg_keep _ _ (by decide)),
   (h c main_arg6).trans (arg_keep _ _ (by decide)),
   (h c main_arg7).trans (arg_keep _ _ (by decide)),
   (h c main_arg8).trans (arg_keep _ _ (by decide)),
   (h c main_arg9).trans (arg_keep _ _ (by decide)),
   (h c main_arg10).trans (arg_keep _ _ (by decide)),
   (h c main_arg11).trans (arg_keep _ _ (by decide)),
   (h c main_arg12).trans (arg_keep _ _ (by decide))⟩

/-- The reference's codes, from its arguments. -/
theorem ref_codes (m : (ℓ : Loc nD τ sig) → Buf (Elt Ideal) ℓ) (c : Dev nD) :
    after (allOps (F := Ideal)) (launchContents m c) (Proc.devRef .tc main_v81)
      = rvqA (F := Ideal) (encA (F := Ideal) (m ((c.tc : Thread nD τ).loc main_arg0)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)))
    (m ((c.tc : Thread nD τ).loc main_arg4)) := allOps_v81 _

end Reference

/-- The kernel's and the reference's results are equal where the precondition holds. -/
theorem equal [Cert.Pre_no_tie.Facts] : Cert.algebraic_KernelIdeal_ReferenceIdeal := by
  intro m g m' g' hpre hargs
  have hfin := fun c => Cert.Pre_no_tie.Entries.finite _ _ _ _ _ _ _ _ _ _ _ _ _ (hpre c)
  refine ⟨fun c => m ((c.tc : Thread Cert.KernelIdeal.nD Cert.KernelIdeal.τ).loc Cert.KernelIdeal.main_arg2), fun c => Cert.Equal.refCodes m c,
    fun c => Cert.ReferenceIdeal.Host.maskA (F := Ideal) (m ((c.tc : Thread Cert.KernelIdeal.nD Cert.KernelIdeal.τ).loc Cert.KernelIdeal.main_arg3)), ?_, ?_⟩
  · refine (θ_run _ _ _).mono (fun r h c => ?_) (Cert.KernelIdeal.Value.run m g)
    obtain ⟨h2, h14, h16, hrest⟩ := h c
    exact ⟨h2, h14.trans (Cert.Equal.codes_eq m c (hfin c)), h16, hrest⟩
  · refine (θ_run _ _ _).mono (fun r h c => ?_) (Cert.ReferenceIdeal.Host.run_all m' g')
    have hk := args_kept m' c r.2.mem h.1
    obtain ⟨h0, h1, h2, h3, h4, h5, h6, h7, h8, h9, h10, h11, h12⟩ := hargs c
    refine ⟨hk.2.2.1.trans h2, ?_, ?_, hk⟩
    · refine (h.1 c Cert.ReferenceIdeal.main_v81).trans ((ref_codes m' c).trans ?_)
      rw [h0, h4, h5, h6, h7, h8, h9, h10, h11, h12]
      rfl
    · refine (h.1 c Cert.ReferenceIdeal.main_v83).trans ((Cert.ReferenceIdeal.Host.allOps_v83 _).trans ?_)
      exact congrArg (Cert.ReferenceIdeal.Host.maskA (F := Ideal)) h3

/-- The kernel runs to its end. -/
theorem kernel_frame : Cert.quiescent_Kernel (hKernel := Cert.Kernel.Gen.facts) := fun m ρ _ => Cert.Kernel.Gen.frame m ρ

/-- The reference runs to its end. -/
theorem reference_frame : Cert.quiescent_ReferenceIdeal (hReferenceIdeal := Cert.ReferenceIdeal.Gen.facts) := fun m ρ _ =>
  (θ_run _ _ _).mono (fun r h => ⟨fun c => args_kept m c r.2.mem h.1, h.2⟩) (Cert.ReferenceIdeal.Host.run_all m ρ)

/-- Every claim. -/
theorem claim : Cert.Claim := ⟨Cert.Kernel.Gen.facts, Cert.KernelIdeal.Gen.facts, Cert.ReferenceIdeal.Gen.facts, Cert.Pre_no_tie.Gen.facts,
  kernel_frame,
  fun m ρ _ => kernel_frame m ρ True.intro,
  fun m ρ _ => Cert.KernelIdeal.Gen.frame m ρ,
  reference_frame,
  fun m ρ _ => reference_frame m ρ True.intro,
  trivial,
  equal⟩

end Cert.Proof

end
